-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v9)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x6144x5120 : Shape := ⟨3, ![4, 6144, 5120]⟩
abbrev S5120 : Shape := ⟨1, ![5120]⟩
abbrev S5120x1920 : Shape := ⟨2, ![5120, 1920]⟩
abbrev S1920 : Shape := ⟨1, ![1920]⟩
abbrev S1x5120 : Shape := ⟨2, ![1, 5120]⟩
abbrev S1x1920 : Shape := ⟨2, ![1, 1920]⟩
abbrev S4x5x6144x128 : Shape := ⟨4, ![4, 5, 6144, 128]⟩
abbrev S5x4x6144 : Shape := ⟨3, ![5, 4, 6144]⟩
abbrev S4x6144 : Shape := ⟨2, ![4, 6144]⟩
abbrev S4x128x5120 : Shape := ⟨3, ![4, 128, 5120]⟩
abbrev S4x5x128x128 : Shape := ⟨4, ![4, 5, 128, 128]⟩
abbrev S5x4x128 : Shape := ⟨3, ![5, 4, 128]⟩
abbrev S4x128 : Shape := ⟨2, ![4, 128]⟩
abbrev S512x128 : Shape := ⟨2, ![512, 128]⟩
abbrev S32x5120 : Shape := ⟨2, ![32, 5120]⟩
abbrev S32x128 : Shape := ⟨2, ![32, 128]⟩
abbrev S1x32x128 : Shape := ⟨3, ![1, 32, 128]⟩
abbrev S1x128 : Shape := ⟨2, ![1, 128]⟩
abbrev S32 : Shape := ⟨1, ![32]⟩
abbrev S32x1 : Shape := ⟨2, ![32, 1]⟩
abbrev S512x5120 : Shape := ⟨2, ![512, 5120]⟩
abbrev S5120x256 : Shape := ⟨2, ![5120, 256]⟩
abbrev S512x256 : Shape := ⟨2, ![512, 256]⟩
abbrev S512 : Shape := ⟨1, ![512]⟩
abbrev S512x1 : Shape := ⟨2, ![512, 1]⟩
abbrev S4x128x128 : Shape := ⟨3, ![4, 128, 128]⟩
abbrev S4x1x128x128 : Shape := ⟨4, ![4, 1, 128, 128]⟩
abbrev S5120x128 : Shape := ⟨2, ![5120, 128]⟩
abbrev S128x128 : Shape := ⟨2, ![128, 128]⟩
abbrev S5x128 : Shape := ⟨2, ![5, 128]⟩
abbrev S5x1x128 : Shape := ⟨3, ![5, 1, 128]⟩
abbrev S4x6144x5x128 : Shape := ⟨4, ![4, 6144, 5, 128]⟩
abbrev S4x6144x5 : Shape := ⟨3, ![4, 6144, 5]⟩

abbrev nBuf : Space → Nat
  | .hbm => 21
  | .vmem => 24
  | .smem => 0
  | _ => 0

abbrev bufTy : (tb : Table) → Fin (tcTables nBuf tb) → BufTy
  | .hbm, ⟨0, _⟩ => ⟨S4x6144x5120, .bf16⟩
  | .hbm, ⟨1, _⟩ => ⟨S5120, .bf16⟩
  | .hbm, ⟨2, _⟩ => ⟨S5120x1920, .fp8e4m3⟩
  | .hbm, ⟨3, _⟩ => ⟨S1920, .f32⟩
  | .hbm, ⟨4, _⟩ => ⟨S5120, .f32⟩
  | .hbm, ⟨5, _⟩ => ⟨S1x5120, .f32⟩
  | .hbm, ⟨6, _⟩ => ⟨S1x1920, .f32⟩
  | .hbm, ⟨7, _⟩ => ⟨S4x5x6144x128, .fp8e4m3⟩
  | .hbm, ⟨8, _⟩ => ⟨S4x5x6144x128, .fp8e4m3⟩
  | .hbm, ⟨9, _⟩ => ⟨S4x5x6144x128, .fp8e4m3⟩
  | .hbm, ⟨10, _⟩ => ⟨S5x4x6144, .f32⟩
  | .hbm, ⟨11, _⟩ => ⟨S5x4x6144, .f32⟩
  | .hbm, ⟨12, _⟩ => ⟨S5x4x6144, .f32⟩
  | .hbm, ⟨13, _⟩ => ⟨S4x6144x5120, .fp8e4m3⟩
  | .hbm, ⟨14, _⟩ => ⟨S4x6144, .f32⟩
  | .hbm, ⟨15, _⟩ => ⟨S4x6144x5x128, .fp8e4m3⟩
  | .hbm, ⟨16, _⟩ => ⟨S4x6144x5x128, .fp8e4m3⟩
  | .hbm, ⟨17, _⟩ => ⟨S4x6144x5x128, .fp8e4m3⟩
  | .hbm, ⟨18, _⟩ => ⟨S4x6144x5, .f32⟩
  | .hbm, ⟨19, _⟩ => ⟨S4x6144x5, .f32⟩
  | .hbm, ⟨20, _⟩ => ⟨S4x6144x5, .f32⟩
  | .local _ .vmem, ⟨0, _⟩ => ⟨S4x128x5120, .bf16⟩
  | .local _ .vmem, ⟨1, _⟩ => ⟨S4x128x5120, .bf16⟩
  | .local _ .vmem, ⟨2, _⟩ => ⟨S1x5120, .f32⟩
  | .local _ .vmem, ⟨3, _⟩ => ⟨S5120x1920, .fp8e4m3⟩
  | .local _ .vmem, ⟨4, _⟩ => ⟨S1x1920, .f32⟩
  | .local _ .vmem, ⟨5, _⟩ => ⟨S4x5x128x128, .fp8e4m3⟩
  | .local _ .vmem, ⟨6, _⟩ => ⟨S4x5x128x128, .fp8e4m3⟩
  | .local _ .vmem, ⟨7, _⟩ => ⟨S4x5x128x128, .fp8e4m3⟩
  | .local _ .vmem, ⟨8, _⟩ => ⟨S4x5x128x128, .fp8e4m3⟩
  | .local _ .vmem, ⟨9, _⟩ => ⟨S4x5x128x128, .fp8e4m3⟩
  | .local _ .vmem, ⟨10, _⟩ => ⟨S4x5x128x128, .fp8e4m3⟩
  | .local _ .vmem, ⟨11, _⟩ => ⟨S5x4x128, .f32⟩
  | .local _ .vmem, ⟨12, _⟩ => ⟨S5x4x128, .f32⟩
  | .local _ .vmem, ⟨13, _⟩ => ⟨S5x4x128, .f32⟩
  | .local _ .vmem, ⟨14, _⟩ => ⟨S5x4x128, .f32⟩
  | .local _ .vmem, ⟨15, _⟩ => ⟨S5x4x128, .f32⟩
  | .local _ .vmem, ⟨16, _⟩ => ⟨S5x4x128, .f32⟩
  | .local _ .vmem, ⟨17, _⟩ => ⟨S4x128x5120, .fp8e4m3⟩
  | .local _ .vmem, ⟨18, _⟩ => ⟨S4x128x5120, .fp8e4m3⟩
  | .local _ .vmem, ⟨19, _⟩ => ⟨S4x128, .f32⟩
  | .local _ .vmem, ⟨20, _⟩ => ⟨S4x128, .f32⟩
  | .local _ .vmem, ⟨21, _⟩ => ⟨S512x128, .f32⟩
  | .local _ .vmem, ⟨22, _⟩ => ⟨S512x128, .f32⟩
  | .local _ .vmem, ⟨23, _⟩ => ⟨S32x5120, .f32⟩
  | _, _ => ⟨S4x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x5x128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x5x128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x5x128x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x6144x5120 : Shape := ⟨3, ![4, 6144, 5120]⟩
abbrev S5120 : Shape := ⟨1, ![5120]⟩
abbrev S5120x1920 : Shape := ⟨2, ![5120, 1920]⟩
abbrev S1920 : Shape := ⟨1, ![1920]⟩
abbrev S1x1x5120 : Shape := ⟨3, ![1, 1, 5120]⟩
abbrev S1x1x1920 : Shape := ⟨3, ![1, 1, 1920]⟩
abbrev S4x6144x5x128 : Shape := ⟨4, ![4, 6144, 5, 128]⟩
abbrev S4x6144x5 : Shape := ⟨3, ![4, 6144, 5]⟩
abbrev S4x6144 : Shape := ⟨2, ![4, 6144]⟩
abbrev S4x6144x1 : Shape := ⟨3, ![4, 6144, 1]⟩
abbrev S4x6144x253 : Shape := ⟨3, ![4, 6144, 253]⟩
abbrev S4x6144x1920 : Shape := ⟨3, ![4, 6144, 1920]⟩
abbrev S4x6144x640 : Shape := ⟨3, ![4, 6144, 640]⟩
abbrev S4x6144x5x253 : Shape := ⟨4, ![4, 6144, 5, 253]⟩
abbrev S4x6144x5x1 : Shape := ⟨4, ![4, 6144, 5, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x6144x5120, .bf16⟩
  | .hbm, ⟨1, _⟩ => ⟨S5120, .bf16⟩
  | .hbm, ⟨2, _⟩ => ⟨S5120x1920, .fp8e4m3⟩
  | .hbm, ⟨3, _⟩ => ⟨S1920, .f32⟩
  | .hbm, ⟨4, _⟩ => ⟨S1x1x5120, .bf16⟩
  | .hbm, ⟨5, _⟩ => ⟨S1x1x1920, .f32⟩
  | .hbm, ⟨6, _⟩ => ⟨S4x6144x5x128, .fp8e4m3⟩
  | .hbm, ⟨7, _⟩ => ⟨S4x6144x5, .f32⟩
  | .hbm, ⟨8, _⟩ => ⟨S4x6144x5x128, .fp8e4m3⟩
  | .hbm, ⟨9, _⟩ => ⟨S4x6144x5, .f32⟩
  | .hbm, ⟨10, _⟩ => ⟨S4x6144x5x128, .fp8e4m3⟩
  | .hbm, ⟨11, _⟩ => ⟨S4x6144x5, .f32⟩
  | .hbm, ⟨12, _⟩ => ⟨S4x6144x5120, .fp8e4m3⟩
  | .hbm, ⟨13, _⟩ => ⟨S4x6144, .f32⟩
  | .local _ .vmem, ⟨0, _⟩ => ⟨S4x6144x5120, .bf16⟩
  | .local _ .vmem, ⟨1, _⟩ => ⟨S1x1x5120, .bf16⟩
  | .local _ .vmem, ⟨2, _⟩ => ⟨S5120x1920, .fp8e4m3⟩
  | .local _ .vmem, ⟨3, _⟩ => ⟨S1x1x1920, .f32⟩
  | .local _ .vmem, ⟨4, _⟩ => ⟨S4x6144x5x128, .fp8e4m3⟩
  | .local _ .vmem, ⟨5, _⟩ => ⟨S4x6144x5, .f32⟩
  | .local _ .vmem, ⟨6, _⟩ => ⟨S4x6144x5x128, .fp8e4m3⟩
  | .local _ .vmem, ⟨7, _⟩ => ⟨S4x6144x5, .f32⟩
  | .local _ .vmem, ⟨8, _⟩ => ⟨S4x6144x5x128, .fp8e4m3⟩
  | .local _ .vmem, ⟨9, _⟩ => ⟨S4x6144x5, .f32⟩
  | .local _ .vmem, ⟨10, _⟩ => ⟨S4x6144x5120, .fp8e4m3⟩
  | .local _ .vmem, ⟨11, _⟩ => ⟨S4x6144, .f32⟩
  | _, _ => ⟨S4x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x6144x5x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x6144x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x6144x5x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x6144x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x6144x5x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x6144x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x6144x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.FrameRun.lean ====
/- One run of the kernel's body on floats: it ends and leaves its inputs as they were. Nothing is said of its outputs. -/
module

public import proofs.«01_k».proof.Proof.Gen.Kernel.Skeleton
public import proofs.«01_k».proof.Proof.Gen.Kernel.Frame

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that the host's operations after the grid write: nothing is said of them here. -/
def T0 : Finset (Ref sig .tc) := {main_v4, main_v5, main_v6, main_v7, main_v8, main_v9}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame from a run that names no output: the arguments end unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S4x128x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1920 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x5x128x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x5x128x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x5x128x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x4x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5x4x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5x4x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128x5120 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x128 .f32 := Memref.whole cc0_scratch0
abbrev scM0_1 : Memref sig .tc .vmem S512x128 .f32 := Memref.whole cc0_scratch1
abbrev scM0_2 : Memref sig .tc .vmem S32x5120 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 28476000 in
/-- The body's triple: the inputs' buffers are left as they were, the outputs' and the scratch at some contents. -/
theorem kernelRun0_A (c : Dev nD) (i : grid0.Coords) (arg1 : Memref sig .tc .vmem S4x128x5120 .bf16) (harg1 : arg1.IsWhole) (arg2 : Memref sig .tc .vmem S1x5120 .f32) (harg2 : arg2.IsWhole) (arg3 : Memref sig .tc .vmem S5120x1920 .fp8e4m3) (harg3 : arg3.IsWhole) (arg4 : Memref sig .tc .vmem S1x1920 .f32) (harg4 : arg4.IsWhole) (arg5 : Memref sig .tc .vmem S4x5x128x128 .fp8e4m3) (harg5 : arg5.IsWhole) (arg6 : Memref sig .tc .vmem S4x5x128x128 .fp8e4m3) (harg6 : arg6.IsWhole) (arg7 : Memref sig .tc .vmem S4x5x128x128 .fp8e4m3) (harg7 : arg7.IsWhole) (arg8 : Memref sig .tc .vmem S5x4x128 .f32) (harg8 : arg8.IsWhole) (arg9 : Memref sig .tc .vmem S5x4x128 .f32) (harg9 : arg9.IsWhole) (arg10 : Memref sig .tc .vmem S5x4x128 .f32) (harg10 : arg10.IsWhole) (arg11 : Memref sig .tc .vmem S4x128x5120 .fp8e4m3) (harg11 : arg11.IsWhole) (arg12 : Memref sig .tc .vmem S4x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S32x5120 .f32) (harg15 : arg15.IsWhole)
    (x0 : Vec F S4x128x5120 .bf16) (x1 : Vec F S1x5120 .f32) (x2 : Vec F S5120x1920 .fp8e4m3) (x3 : Vec F S1x1920 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_rmsnorm_qkv_quant i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_rmsnorm_qkv_quant_eq_skeleton]; unfold cc0_rmsnorm_qkv_quant_skel
    simp only [k0_part510_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part511_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part512_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part513_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part514_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part515_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part516_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part517_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part518_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Forget

end
-- ==== Proof.FrameFloat.lean ====
/- The kernel's frame on floats: every run ends, with the arguments unchanged and every counter at zero. -/
module

public import proofs.«01_k».proof.Proof.FrameRun
public import Idealize.ShloMosaic.Lib.Claim

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (4, 5, 6, 7, 8, 9, 10, 11): nothing reads what the kernel leaves in them, so nothing
    of it is named (Lib/Pipeline/Dat.lean `Dat.toRForget`). -/
def forgets0 : Fin 12 → Bool := fun w => w.val == 4 || w.val == 5 || w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The run: no output is named, and every counter ends at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Forget

end
-- ==== Proof.Body.lean ====
/- The kernel's body written once, as loops over blocks: what the printed text says 30581 statements long. -/
module

public import proofs.«01_k».proof.Proof.Gen.KernelIdeal

@[expose] public section

set_option maxRecDepth 16384

noncomputable section

namespace Cert.KernelIdeal.Body

open Idealize.ShloMosaic Idealize.SL.Sem
open Cert.KernelIdeal Cert.KernelIdeal.Gen

variable {F : FTy → Type} [FloatOps F]

/-- Programs of the body. -/
abbrev Pg (F : FTy → Type) := Prog (TpuEff nD τ sig (Elt F) Λ₀ .tc) PUnit

/-! ## The scale of a row -/

/-- One step of the search for the exponent field: keep the bit where `s` reaches the power it makes. -/
def fieldStep {S : Shape} (s : FVec F S .f32) (m : BitVec 32) (f : IVec S 32) : IVec S 32 :=
  select (cmpf .oge s (bitcastToFloat .f32 (ori f (broadcast S m)))) (ori f (broadcast S m)) f

/-- The exponent field of `s`, from its top bit down. -/
def field {S : Shape} (s : FVec F S .f32) : IVec S 32 :=
  fieldStep s 8388608#32 (fieldStep s 16777216#32 (fieldStep s 33554432#32 (fieldStep s 67108864#32
    (fieldStep s 134217728#32 (fieldStep s 268435456#32 (fieldStep s 536870912#32
      (fieldStep s 1073741824#32 (broadcast S 0#32))))))))

/-- The inverse of the power of two above `s`, and one where `s` is zero. -/
def invOf {S : Shape} (s : FVec F S .f32) : FVec F S .f32 :=
  select (cmpf .oeq s (broadcast S (Scalar.ofBits .f32 0x00000000#32)))
    (broadcast S (Scalar.ofBits .f32 0x3F800000#32))
    (bitcastToFloat .f32 (subi (broadcast S 2122317824#32) (minsi (field s) (broadcast S 2113929216#32))))

/-- The reciprocal of a power of two. -/
def recip {S : Shape} (v : FVec F S .f32) : FVec F S .f32 :=
  bitcastToFloat .f32 (subi (broadcast S 2130706432#32) (field v))

/-- Scaled values clipped to the range of the codes. -/
def clip {S : Shape} (v : FVec F S .f32) : FVec F S .fp8e4m3 :=
  truncf .fp8e4m3 (minimumf (broadcast S (Scalar.ofBits .f32 0x43E00000#32))
    (maximumf (broadcast S (Scalar.ofBits .f32 0xC3E00000#32)) v)) bitsLt_fp8e4m3_f32

/-! ## Rectangles, at any block -/

theorem inb_x (b r c : Nat) (hb : b < 4) (hr : r < 4) (hc : c < 40) :
    ∀ a, (![b, 32 * r, 128 * c] : Fin 3 → Nat) a + S1x32x128.size a ≤ S4x128x5120.size a := by
  intro a
  fin_cases a
  · show b + 1 ≤ 4; omega
  · show 32 * r + 32 ≤ 128; omega
  · show 128 * c + 128 ≤ 5120; omega

theorem inb_g (c : Nat) (hc : c < 40) :
    ∀ a, (![0, 128 * c] : Fin 2 → Nat) a + S1x128.size a ≤ S1x5120.size a := by
  intro a
  fin_cases a
  · show 0 + 1 ≤ 1; omega
  · show 128 * c + 128 ≤ 5120; omega

theorem inb_p (c : Nat) (hc : c < 40) :
    ∀ a, (![0, 128 * c] : Fin 2 → Nat) a + S32x128.size a ≤ S32x5120.size a := by
  intro a
  fin_cases a
  · show 0 + 32 ≤ 32; omega
  · show 128 * c + 128 ≤ 5120; omega

theorem inb_xs (n : Nat) (hn : n < 16) :
    ∀ a, (![32 * n, 0] : Fin 2 → Nat) a + S32x128.size a ≤ S512x128.size a := by
  intro a
  fin_cases a
  · show 32 * n + 32 ≤ 512; omega
  · show 0 + 128 ≤ 128; omega

theorem inb_w (h : Nat) (hh : h < 7) :
    ∀ a, (![0, 256 * h] : Fin 2 → Nat) a + S5120x256.size a ≤ S5120x1920.size a := by
  intro a
  fin_cases a
  · show 0 + 5120 ≤ 5120; omega
  · show 256 * h + 256 ≤ 1920; omega

theorem inb_ws (h : Nat) (hh : h < 15) :
    ∀ a, (![0, 128 * h] : Fin 2 → Nat) a + S1x128.size a ≤ S1x1920.size a := by
  intro a
  fin_cases a
  · show 0 + 1 ≤ 1; omega
  · show 128 * h + 128 ≤ 1920; omega

theorem inb_inv (h : Nat) (hh : h < 16) :
    ∀ a, (![0, h] : Fin 2 → Nat) a + S512x1.size a ≤ S512x128.size a := by
  intro a
  fin_cases a
  · show 0 + 512 ≤ 512; omega
  · show h + 1 ≤ 128; omega

theorem inb_invT (b : Nat) (hb : b < 4) :
    ∀ a, (![128 * b, 0] : Fin 2 → Nat) a + S128x128.size a ≤ S512x128.size a := by
  intro a
  fin_cases a
  · show 128 * b + 128 ≤ 512; omega
  · show 0 + 128 ≤ 128; omega

theorem inb_o (j : Nat) (hj : j < 5) :
    ∀ a, (![0, j, 0, 0] : Fin 4 → Nat) a + S4x1x128x128.size a ≤ S4x5x128x128.size a := by
  intro a
  fin_cases a
  · show 0 + 4 ≤ 4; omega
  · show j + 1 ≤ 5; omega
  · show 0 + 128 ≤ 128; omega
  · show 0 + 128 ≤ 128; omega

theorem inb_s (b : Nat) (hb : b < 4) :
    ∀ a, (![0, b, 0] : Fin 3 → Nat) a + S5x1x128.size a ≤ S5x4x128.size a := by
  intro a
  fin_cases a
  · show 0 + 5 ≤ 5; omega
  · show b + 1 ≤ 4; omega
  · show 0 + 128 ≤ 128; omega

theorem inb_xsc (b : Nat) (hb : b < 4) :
    ∀ a, (![b, 0] : Fin 2 → Nat) a + S1x128.size a ≤ S4x128.size a := by
  intro a
  fin_cases a
  · show b + 1 ≤ 4; omega
  · show 0 + 128 ≤ 128; omega

theorem packed_x (b r c : Nat) (hb : b < 4) (hr : r < 4) (hc : c < 40) :
    (Rect.unit (s := S4x128x5120) ![b, 32 * r, 128 * c] S1x32x128.size (inb_x b r c hb hr hc)).PackedRows
      (EltTy.packing .fp8e4m3) :=
  .inr ⟨by decide, rfl, .inl ⟨⟨8 * r, by show 32 * r = 4 * (8 * r); omega⟩, ⟨8, rfl⟩⟩⟩

theorem packed_o (j : Nat) (hj : j < 5) :
    (Rect.unit (s := S4x5x128x128) ![0, j, 0, 0] S4x1x128x128.size (inb_o j hj)).PackedRows
      (EltTy.packing .fp8e4m3) :=
  .inr ⟨by decide, rfl, .inl ⟨⟨0, rfl⟩, ⟨32, rfl⟩⟩⟩

section

variable (arg1 : Memref sig .tc .vmem S4x128x5120 .bf16) (arg2 : Memref sig .tc .vmem S1x5120 .f32)
  (arg3 : Memref sig .tc .vmem S5120x1920 .fp8e4m3) (arg4 : Memref sig .tc .vmem S1x1920 .f32)
  (arg5 arg6 arg7 : Memref sig .tc .vmem S4x5x128x128 .fp8e4m3)
  (harg5 : arg5.IsWhole) (harg6 : arg6.IsWhole) (harg7 : arg7.IsWhole)
  (arg8 arg9 arg10 : Memref sig .tc .vmem S5x4x128 .f32)
  (arg11 : Memref sig .tc .vmem S4x128x5120 .fp8e4m3) (harg11 : arg11.IsWhole)
  (arg12 : Memref sig .tc .vmem S4x128 .f32)
  (arg13 arg14 : Memref sig .tc .vmem S512x128 .f32) (arg15 : Memref sig .tc .vmem S32x5120 .f32)

/-! ## Normalising a block of 32 rows -/

/-- A block of the activations as numbers. -/
def xOf (v : Vec F S1x32x128 .bf16) : FVec F S32x128 .f32 :=
  extf .f32 (shapeCast S32x128 v shapeCasts_S1x32x128_S32x128) bitsLt_bf16_f32

/-- A block of the weighted activations. -/
def pOf (v : Vec F S1x32x128 .bf16) (g : Vec F S1x128 .f32) : FVec F S32x128 .f32 :=
  mulf (xOf v) (broadcastTo S32x128 (shapeCast S1x128 g shapeCasts_S1x128_S1x128) broadcasts_S1x128_S32x128)

/-- First pass, the last `n` of the 40 lane blocks: keep the weighted activations, and per lane the sum of
    squares and the largest magnitude. -/
def pass1 (b r : Nat) (hb : b < 4) (hr : r < 4) :
    (n : Nat) → n ≤ 40 → FVec F S32x128 .f32 → FVec F S32x128 .f32 →
      (FVec F S32x128 .f32 → FVec F S32x128 .f32 → Pg F) → Pg F
  | 0, _, sq, am, K => K sq am
  | n + 1, hn, sq, am, K =>
    .op (.load arg1 (Rect.unit (s := S4x128x5120) ![b, 32 * r, 128 * (39 - n)] S1x32x128.size
        (inb_x b r (39 - n) hb hr (by omega))).toLoadRect (View.loadsAt_vmem h_S1x32x128)) fun (v : Vec F S1x32x128 .bf16) =>
    .op (.load arg2 (Rect.unit (s := S1x5120) ![0, 128 * (39 - n)] S1x128.size
        (inb_g (39 - n) (by omega))).toLoadRect (View.loadsAt_vmem h_S1x128)) fun (g : Vec F S1x128 .f32) =>
    .op (.load arg15 (Rect.unit (s := S32x5120) ![0, 128 * (39 - n)] S32x128.size
        (inb_p (39 - n) (by omega))).toLoadRect (View.loadsAt_vmem h_S32x128)) fun (_ : Vec F S32x128 .f32) =>
    .op (.store arg15 (Rect.unit (s := S32x5120) ![0, 128 * (39 - n)] S32x128.size (inb_p (39 - n) (by omega)))
        (shapeCast S32x128 (pOf v g) shapeCasts_S32x128_S32x128) Finset.univ
        (View.stores_vmem_bits_univ h_S32x128 rfl) (.inl rfl)) fun _ =>
    pass1 b r hb hr n (by omega) (addf sq (mulf (xOf v) (xOf v))) (maximumf am (absf (pOf v g))) K

/-- The inverse root mean square of each row. -/
def rsOf (sq : FVec F S32x128 .f32) : FVec F S32x1 .f32 :=
  rsqrt (addf (divf (shapeCast S32x1 (multiReduction .add [1] S32 sq 0x00000000#32 reduces_S32x128_S32 (.inl rfl) rfl)
    shapeCasts_S32_S32x1) (broadcast S32x1 (Scalar.ofBits .f32 0x45A00000#32)))
    (broadcast S32x1 (Scalar.ofBits .f32 0x358637BD#32)))

/-- The inverse scale of each row. -/
def invRow (sq am : FVec F S32x128 .f32) : FVec F S32x1 .f32 :=
  invOf (mulf (mulf (shapeCast S32x1 (multiReduction .maximumf [1] S32 am 0xFF800000#32 reduces_S32x128_S32 (.inl rfl) rfl)
    shapeCasts_S32_S32x1) (rsOf sq)) (broadcast S32x1 (Scalar.ofBits .f32 0x3B124925#32)))

/-- Second pass, the last `n` lane blocks: the codes. -/
def pass2 (b r : Nat) (hb : b < 4) (hr : r < 4) (m : FVec F S32x1 .f32) : (n : Nat) → n ≤ 40 → Pg F → Pg F
  | 0, _, K => K
  | n + 1, hn, K =>
    .op (.load arg15 (Rect.unit (s := S32x5120) ![0, 128 * (39 - n)] S32x128.size
        (inb_p (39 - n) (by omega))).toLoadRect (View.loadsAt_vmem h_S32x128)) fun (p : Vec F S32x128 .f32) =>
    .op (.load arg11 (Rect.unit (s := S4x128x5120) ![b, 32 * r, 128 * (39 - n)] S1x32x128.size
        (inb_x b r (39 - n) hb hr (by omega))).toLoadRect (View.loadsAt_vmem h_S1x32x128)) fun (_ : Vec F S1x32x128 .fp8e4m3) =>
    .op (.store arg11 (Rect.unit (s := S4x128x5120) ![b, 32 * r, 128 * (39 - n)] S1x32x128.size
        (inb_x b r (39 - n) hb hr (by omega)))
        (shapeCast S1x32x128 (clip (mulf p (broadcastTo S32x128 m broadcasts_S32x1_S32x128))) shapeCasts_S32x128_S1x32x128)
        Finset.univ (View.stores_vmem h_S1x32x128 (harg11.storeExact_slice rfl _
          (packed_x b r (39 - n) hb hr (by omega))) (fun _ => rfl)) (.inl rfl)) fun _ =>
    pass2 b r hb hr m n (by omega) K

/-- Between the passes: the row scales are kept in block `n` of the scale scratch. -/
def middle (n : Nat) (hn : n < 16) (sq am : FVec F S32x128 .f32) (K : Pg F) : Pg F :=
  .op (.load arg13 (Rect.unit (s := S512x128) ![32 * n, 0] S32x128.size (inb_xs n hn)).toLoadRect
      (View.loadsAt_vmem h_S32x128)) fun (_ : Vec F S32x128 .f32) =>
  .op (.store arg13 (Rect.unit (s := S512x128) ![32 * n, 0] S32x128.size (inb_xs n hn))
      (shapeCast S32x128 (broadcastTo S32x128 (shapeCast S32x1 (recip (invRow sq am)) shapeCasts_S32x1_S32x1)
        broadcasts_S32x1_S32x128) shapeCasts_S32x128_S32x128) Finset.univ
      (View.stores_vmem_bits_univ h_S32x128 rfl) (.inl rfl)) fun _ => K

/-- One block of 32 rows. -/
def block (n : Nat) (hn : n < 16) (K : Pg F) : Pg F :=
  pass1 arg1 arg2 arg15 (n / 4) (n % 4) (by omega) (by omega) 40 (by omega)
    (broadcast S32x128 (Scalar.ofBits .f32 0x00000000#32)) (broadcast S32x128 (Scalar.ofBits .f32 0x00000000#32))
    fun sq am =>
  middle arg13 n hn sq am <|
  pass2 arg11 harg11 arg15 (n / 4) (n % 4) (by omega) (by omega) (mulf (rsOf sq) (invRow sq am)) 40 (by omega) K

/-- The last `n` of the 16 blocks. -/
def blocks : (n : Nat) → n ≤ 16 → Pg F → Pg F
  | 0, _, K => K
  | n + 1, hn, K => block arg1 arg2 arg11 harg11 arg13 arg15 (15 - n) (by omega) (blocks n (by omega) K)

/-! ## The heads -/

/-- The outputs of a head: the accumulated product times the two scales. -/
def yOf (acc xs : FVec F S512x128 .f32) (w : Vec F S1x128 .f32) : FVec F S512x128 .f32 :=
  mulf (mulf acc xs) (broadcastTo S512x128 (shapeCast S1x128 w shapeCasts_S1x128_S1x128) broadcasts_S1x128_S512x128)

/-- The inverse scale of each row of a head. -/
def invHead (y : FVec F S512x128 .f32) : FVec F S512x1 .f32 :=
  invOf (mulf (shapeCast S512x1 (multiReduction .maximumf [1] S512 (absf y) 0xFF800000#32 reduces_S512x128_S512 (.inl rfl) rfl)
    shapeCasts_S512_S512x1) (broadcast S512x1 (Scalar.ofBits .f32 0x3B124925#32)))

/-- Head `h`, which is part `j` of the output `o`. -/
def head (o : Memref sig .tc .vmem S4x5x128x128 .fp8e4m3) (ho : o.IsWhole) (h j : Nat) (hh : h < 15) (hj : j < 5)
    (acc xs : FVec F S512x128 .f32) (K : Pg F) : Pg F :=
  .op (.load arg4 (Rect.unit (s := S1x1920) ![0, 128 * h] S1x128.size (inb_ws h hh)).toLoadRect
      (View.loadsAt_vmem h_S1x128)) fun (w : Vec F S1x128 .f32) =>
  .op (.load arg14 (Rect.unit (s := S512x128) ![0, h] S512x1.size (inb_inv h (by omega))).toLoadRect
      (View.loadsAt_vmem h_S512x1)) fun (_ : Vec F S512x1 .f32) =>
  .op (.store arg14 (Rect.unit (s := S512x128) ![0, h] S512x1.size (inb_inv h (by omega)))
      (shapeCast S512x1 (invHead (yOf acc xs w)) shapeCasts_S512x1_S512x1) Finset.univ
      (View.stores_vmem_bits_univ h_S512x1 rfl) (.inl rfl)) fun _ =>
  .op (.load o (Rect.unit (s := S4x5x128x128) ![0, j, 0, 0] S4x1x128x128.size (inb_o j hj)).toLoadRect
      (View.loadsAt_vmem h_S4x1x128x128)) fun (_ : Vec F S4x1x128x128 .fp8e4m3) =>
  .op (.store o (Rect.unit (s := S4x5x128x128) ![0, j, 0, 0] S4x1x128x128.size (inb_o j hj))
      (shapeCast S4x1x128x128 (shapeCast S4x128x128 (clip (mulf (yOf acc xs w)
        (broadcastTo S512x128 (invHead (yOf acc xs w)) broadcasts_S512x1_S512x128))) shapeCasts_S512x128_S4x128x128)
        shapeCasts_S4x128x128_S4x1x128x128) Finset.univ
      (View.stores_vmem h_S4x1x128x128 (ho.storeExact_slice rfl _ (packed_o j hj)) (fun _ => rfl)) (.inl rfl)) fun _ => K

/-- The codes as rows. -/
def rowsA (C : Vec F S4x128x5120 .fp8e4m3) : FVec F S512x5120 .fp8e4m3 := shapeCast S512x5120
  (shapeCast S4x128x5120 C shapeCasts_S4x128x5120_S4x128x5120) shapeCasts_S4x128x5120_S512x5120

/-- The product of all rows with the weights of heads `2 h` and `2 h + 1`. -/
def accOf (x : FVec F S512x5120 .fp8e4m3) (w : Vec F S5120x256 .fp8e4m3) : FVec F S512x256 .f32 :=
  matmul dot_S512x5120_S5120x256_S512x256_1_0_0_1_n_n none x w (constant S512x256 .f32 0x00000000#32)

/-- Heads `2 h` and `2 h + 1`, part `j` of `o` and part `j'` of `o'`. -/
def pair (o : Memref sig .tc .vmem S4x5x128x128 .fp8e4m3) (ho : o.IsWhole)
    (o' : Memref sig .tc .vmem S4x5x128x128 .fp8e4m3) (ho' : o'.IsWhole)
    (h j j' : Nat) (hh : h < 7) (hj : j < 5) (hj' : j' < 5)
    (x : FVec F S512x5120 .fp8e4m3) (xs : FVec F S512x128 .f32) (K : Pg F) : Pg F :=
  .op (.load arg3 (Rect.unit (s := S5120x1920) ![0, 256 * h] S5120x256.size (inb_w h hh)).toLoadRect
      (View.loadsAt_vmem h_S5120x256)) fun (w : Vec F S5120x256 .fp8e4m3) =>
  head arg4 arg14 o ho (2 * h) j (by omega) hj
    (extractStridedSlice S512x128 ![0, 0] (accOf x w) slices_S512x256_o0_0_S512x128) xs <|
  head arg4 arg14 o' ho' (2 * h + 1) j' (by omega) hj'
    (extractStridedSlice S512x128 ![0, 128] (accOf x w) slices_S512x256_o0_128_S512x128) xs K

/-- The last head. -/
def lastHead (x : FVec F S512x5120 .fp8e4m3) (xs : FVec F S512x128 .f32) (K : Pg F) : Pg F :=
  .op (.load arg3 (Rect.unit (s := S5120x1920) ![0, 1792] S5120x128.size inb_S5120x1920_S5120x128_0_1792).toLoadRect
      (View.loadsAt_vmem h_S5120x128)) fun (w : Vec F S5120x128 .fp8e4m3) =>
  head arg4 arg14 arg7 harg7 14 4 (by omega) (by omega)
    (matmul dot_S512x5120_S5120x128_S512x128_1_0_0_1_n_n none x w (constant S512x128 .f32 0x00000000#32)) xs K

/-! ## The scales, transposed -/

/-- The scales of the five heads of one output, for batch `b`. -/
def scaleOut (o : Memref sig .tc .vmem S5x4x128 .f32) (b : Nat) (hb : b < 4) (t : FVec F S5x128 .f32) (K : Pg F) : Pg F :=
  .op (.load o (Rect.unit (s := S5x4x128) ![0, b, 0] S5x1x128.size (inb_s b hb)).toLoadRect
      (View.loadsAt_vmem h_S5x1x128)) fun (_ : Vec F S5x1x128 .f32) =>
  .op (.store o (Rect.unit (s := S5x4x128) ![0, b, 0] S5x1x128.size (inb_s b hb))
      (shapeCast S5x1x128 t shapeCasts_S5x128_S5x1x128) Finset.univ
      (View.stores_vmem_bits_univ h_S5x1x128 rfl) (.inl rfl)) fun _ => K

/-- The scales of a batch: the reciprocals of the transposed inverses. -/
def tOf (v : Vec F S128x128 .f32) : FVec F S128x128 .f32 :=
  recip (transpose S128x128 [1, 0] v transposes_S128x128_p1_0_S128x128)

/-- The scales of batch `b`. -/
def batchScales (b : Nat) (hb : b < 4) (K : Pg F) : Pg F :=
  .op (.load arg14 (Rect.unit (s := S512x128) ![128 * b, 0] S128x128.size (inb_invT b hb)).toLoadRect
      (View.loadsAt_vmem h_S128x128)) fun (v : Vec F S128x128 .f32) =>
  scaleOut arg8 b hb (extractStridedSlice S5x128 ![0, 0] (tOf v) slices_S128x128_o0_0_S5x128) <|
  scaleOut arg9 b hb (extractStridedSlice S5x128 ![5, 0] (tOf v) slices_S128x128_o5_0_S5x128) <|
  scaleOut arg10 b hb (extractStridedSlice S5x128 ![10, 0] (tOf v) slices_S128x128_o10_0_S5x128) <|
  .op (.load arg12 (Rect.unit (s := S4x128) ![b, 0] S1x128.size (inb_xsc b hb)).toLoadRect
      (View.loadsAt_vmem h_S1x128)) fun (_ : Vec F S1x128 .f32) =>
  .op (.store arg12 (Rect.unit (s := S4x128) ![b, 0] S1x128.size (inb_xsc b hb))
      (extractStridedSlice S1x128 ![15, 0] (tOf v) slices_S128x128_o15_0_S1x128) Finset.univ
      (View.stores_vmem_bits_univ h_S1x128 rfl) (.inl rfl)) fun _ => K

/-- The reciprocals of the row scales, in column 15. -/
def lastColumn (xs : FVec F S512x128 .f32) (K : Pg F) : Pg F :=
  .op (.load arg14 (Rect.unit (s := S512x128) ![0, 15] S512x1.size (inb_inv 15 (by omega))).toLoadRect
      (View.loadsAt_vmem h_S512x1)) fun (_ : Vec F S512x1 .f32) =>
  .op (.store arg14 (Rect.unit (s := S512x128) ![0, 15] S512x1.size (inb_inv 15 (by omega)))
      (shapeCast S512x1 (recip (extractStridedSlice S512x1 ![0, 0] xs slices_S512x128_o0_0_S512x1))
        shapeCasts_S512x1_S512x1) Finset.univ (View.stores_vmem_bits_univ h_S512x1 rfl) (.inl rfl)) fun _ => K

/-- What follows the 16 blocks. -/
def tail : Pg F :=
  .op (.load arg11 (Rect.unit (s := S4x128x5120) ![0, 0, 0] S4x128x5120.size inb_S4x128x5120_S4x128x5120_0_0_0).toLoadRect
      (View.loadsAt_vmem h_S4x128x5120)) fun (v : Vec F S4x128x5120 .fp8e4m3) =>
  .op (.load arg13 (Rect.unit (s := S512x128) ![0, 0] S512x128.size inb_S512x128_S512x128_0_0).toLoadRect
      (View.loadsAt_vmem h_S512x128)) fun (xs : Vec F S512x128 .f32) =>
  pair arg3 arg4 arg14 arg5 harg5 arg5 harg5 0 0 1 (by omega) (by omega) (by omega) (rowsA v) xs <|
  pair arg3 arg4 arg14 arg5 harg5 arg5 harg5 1 2 3 (by omega) (by omega) (by omega) (rowsA v) xs <|
  pair arg3 arg4 arg14 arg5 harg5 arg6 harg6 2 4 0 (by omega) (by omega) (by omega) (rowsA v) xs <|
  pair arg3 arg4 arg14 arg6 harg6 arg6 harg6 3 1 2 (by omega) (by omega) (by omega) (rowsA v) xs <|
  pair arg3 arg4 arg14 arg6 harg6 arg6 harg6 4 3 4 (by omega) (by omega) (by omega) (rowsA v) xs <|
  pair arg3 arg4 arg14 arg7 harg7 arg7 harg7 5 0 1 (by omega) (by omega) (by omega) (rowsA v) xs <|
  pair arg3 arg4 arg14 arg7 harg7 arg7 harg7 6 2 3 (by omega) (by omega) (by omega) (rowsA v) xs <|
  lastHead arg3 arg4 arg7 harg7 arg14 (rowsA v) xs <|
  lastColumn arg14 xs <|
  batchScales arg8 arg9 arg10 arg12 arg14 0 (by omega) <|
  batchScales arg8 arg9 arg10 arg12 arg14 1 (by omega) <|
  batchScales arg8 arg9 arg10 arg12 arg14 2 (by omega) <|
  batchScales arg8 arg9 arg10 arg12 arg14 3 (by omega) (.ret ⟨⟩)

end

end Cert.KernelIdeal.Body
-- ==== Proof.Scale.lean ====
/- The scale of a row at the extended reals: the search for the exponent field, the power of two it names, its inverse,
   and the same power as the least one of a table. -/
module

public import proofs.«01_k».proof.Proof.Body
public import Idealize.ShloMosaic.Lib.ValueIdx
public import Idealize.ShloMosaic.PureOps.Ideal.Laws

@[expose] public section

set_option maxRecDepth 16384

noncomputable section

namespace Cert.Scale

open Idealize.ShloMosaic Idealize.ShloMosaic.ValueIdx
open Cert.KernelIdeal.Body

/-! ## Powers of two by their exponent field -/

/-- The number whose exponent field is `E` and whose fraction is zero. -/
def pw (E : Nat) : EReal := Ideal.ofBits .f32 (BitVec.ofNat 32 (E * 8388608))

theorem bits_pw : ∀ E : Fin 256, (((BitVec.ofNat 32 (E.val * 8388608)).extractLsb' 31 1 == 1#1) = false)
    ∧ ((BitVec.ofNat 32 (E.val * 8388608)).extractLsb' 23 8).toNat = E.val
    ∧ ((BitVec.ofNat 32 (E.val * 8388608)).extractLsb' 0 23).toNat = 0 := by decide +kernel

theorem pw_eq (E : Nat) (h : E < 256) : pw E =
    if E = 255 then ⊤ else if E = 0 then 0 else (((2 : ℝ) ^ ((E : ℤ) - 127) : ℝ) : EReal) := by
  obtain ⟨h1, h2, h3⟩ := bits_pw ⟨E, h⟩
  simp only at h1 h2 h3
  unfold pw Ideal.ofBits
  show Ideal.ieee 8 23 (BitVec.ofNat 32 (E * 8388608)) = _
  unfold Ideal.ieee
  simp only [show 8 + 23 = 31 from rfl, h1, h2, h3]
  by_cases e255 : E = 255
  · subst e255; simp
  by_cases e0 : E = 0
  · subst e0; simp
  rw [if_neg (by omega), if_neg e0, if_neg e255, if_neg e0]
  congr 1
  have : ((2 : ℝ) ^ 23 + 0) * 2 ^ ((E : ℤ) - 127 - 23) = 2 ^ ((E : ℤ) - 127) := by
    rw [add_zero, ← zpow_natCast, ← zpow_add₀ (by norm_num)]
    congr 1
    push_cast
    ring
  rw [← this]
  norm_num

theorem pw_zero : pw 0 = 0 := by rw [pw_eq 0 (by omega)]; simp
theorem pw_top : pw 255 = ⊤ := by rw [pw_eq 255 (by omega)]; simp
theorem pw_mid (E : Nat) (h1 : 1 ≤ E) (h2 : E ≤ 254) : pw E = (((2 : ℝ) ^ ((E : ℤ) - 127) : ℝ) : EReal) := by
  rw [pw_eq E (by omega), if_neg (by omega), if_neg (by omega)]
theorem pw_one : pw 127 = 1 := by rw [pw_mid 127 (by omega) (by omega)]; norm_num

theorem pw_lt {E E' : Nat} (h : E < E') (h' : E' ≤ 255) : pw E < pw E' := by
  rcases Nat.eq_zero_or_pos E with rfl | hE
  · rw [pw_zero]
    by_cases e : E' = 255
    · rw [e, pw_top]; exact EReal.zero_lt_top
    · rw [pw_mid E' (by omega) (by omega)]
      exact_mod_cast zpow_pos (by norm_num : (0 : ℝ) < 2) _
  · rw [pw_mid E hE (by omega)]
    by_cases e : E' = 255
    · rw [e, pw_top]; exact EReal.coe_lt_top _
    · rw [pw_mid E' (by omega) (by omega)]
      have l : (E : ℤ) - 127 < (E' : ℤ) - 127 := by omega
      exact EReal.coe_lt_coe_iff.2 (zpow_lt_zpow_right₀ (by norm_num : (1 : ℝ) < 2) l)

theorem pw_le {E E' : Nat} (h : E ≤ E') (h' : E' ≤ 255) : pw E ≤ pw E' := by
  rcases Nat.eq_or_lt_of_le h with rfl | h
  · exact le_rfl
  · exact (pw_lt h h').le

theorem pw_pos {E : Nat} (h : 1 ≤ E) (h' : E ≤ 255) : 0 < pw E := by rw [← pw_zero]; exact pw_lt (by omega) h'

/-- The reciprocal of a power is the power of the opposite exponent. -/
theorem div_pw (E : Nat) (h1 : 1 ≤ E) (h2 : E ≤ 253) : Ideal.div 1 (pw E) = pw (254 - E) := by
  unfold Ideal.div
  rw [if_neg (pw_pos h1 (by omega)).ne', one_mul, pw_mid E h1 (by omega), pw_mid (254 - E) (by omega) (by omega),
    ← EReal.coe_inv, ← zpow_neg]
  congr 2
  push_cast [show E ≤ 254 by omega]
  ring

/-! ## The search for the field -/

variable {S : Shape}

theorem ori_word : ∀ (b : Fin 8) (E : Fin 256), E.val % 2 ^ (b.val + 1) = 0 →
    IntOp.ori (BitVec.ofNat 32 (E.val * 8388608)) (BitVec.ofNat 32 (2 ^ b.val * 8388608))
      = BitVec.ofNat 32 ((E.val + 2 ^ b.val) * 8388608) := by decide +kernel

/-- What the search has at bit `b`: a field that is right down to that bit. -/
def Found (x : EReal) (b : Nat) (f : BitVec 32) (E : Nat) : Prop :=
  f = BitVec.ofNat 32 (E * 8388608) ∧ E % 2 ^ b = 0 ∧ E + 2 ^ b ≤ 256 ∧ (E = 0 ∨ pw E ≤ x)
    ∧ (E + 2 ^ b = 256 ∨ x < pw (E + 2 ^ b))

theorem step_found (s : FVec Ideal S .f32) (f : IVec S 32) (i : S.Idx) (b : Nat) (hb : b < 8) (m : BitVec 32)
    (hm : m = BitVec.ofNat 32 (2 ^ b * 8388608)) (h : ∃ E, Found (s i) (b + 1) (f i) E) :
    ∃ E, Found (s i) b (fieldStep s m f i) E := by
  obtain ⟨E, hf, hE, hE2, hlo, hhi⟩ := h
  have hp : 2 ^ (b + 1) = 2 * 2 ^ b := by rw [pow_succ]; ring
  have hpos : 0 < 2 ^ b := by positivity
  have ho : IntOp.ori (f i) m = BitVec.ofNat 32 ((E + 2 ^ b) * 8388608) := by
    rw [hf, hm]; exact ori_word ⟨b, hb⟩ ⟨E, by omega⟩ hE
  have e : fieldStep s m f i = if pw (E + 2 ^ b) ≤ s i then IntOp.ori (f i) m else f i := by
    show Scalar.select (Ideal.cmp .oge (s i) (Ideal.ofBits .f32 (IntOp.ori (f i) m))) (IntOp.ori (f i) m) (f i) = _
    rw [ho]
    show Scalar.select (BitVec.ofBool (decide (pw (E + 2 ^ b) ≤ s i))) _ _ = _
    by_cases c : pw (E + 2 ^ b) ≤ s i
    · rw [if_pos c, decide_eq_true c]; rfl
    · rw [if_neg c, decide_eq_false c]; rfl
  have hdvd : E % 2 ^ b = 0 := by
    have : 2 ^ b ∣ E := (Dvd.intro_left 2 hp.symm).trans (Nat.dvd_of_mod_eq_zero hE)
    exact Nat.mod_eq_zero_of_dvd this
  rw [e]
  by_cases c : pw (E + 2 ^ b) ≤ s i
  · rw [if_pos c, ho]
    refine ⟨E + 2 ^ b, rfl, ?_, by omega, .inr c, ?_⟩
    · rw [Nat.add_mod_right]; exact hdvd
    · rw [show E + 2 ^ b + 2 ^ b = E + 2 ^ (b + 1) by omega]; exact hhi
  · rw [if_neg c]
    exact ⟨E, hf, hdvd, by omega, hlo, .inr (not_le.1 c)⟩

/-- The field found is the exponent's. -/
theorem field_found (s : FVec Ideal S .f32) (i : S.Idx) : ∃ E, Found (s i) 0 (field s i) E := by
  unfold field
  refine step_found s _ i 0 (by omega) _ (by decide) ?_
  refine step_found s _ i 1 (by omega) _ (by decide) ?_
  refine step_found s _ i 2 (by omega) _ (by decide) ?_
  refine step_found s _ i 3 (by omega) _ (by decide) ?_
  refine step_found s _ i 4 (by omega) _ (by decide) ?_
  refine step_found s _ i 5 (by omega) _ (by decide) ?_
  refine step_found s _ i 6 (by omega) _ (by decide) ?_
  refine step_found s _ i 7 (by omega) _ (by decide) ?_
  exact ⟨0, rfl, rfl, by omega, .inl rfl, .inl rfl⟩

/-- `E` is the exponent field of `x`, capped at 252. -/
def IsExp (x : EReal) (E : Nat) : Prop := E ≤ 252 ∧ (E = 0 ∨ pw E ≤ x) ∧ (E = 252 ∨ x < pw (E + 1))

theorem IsExp.unique {x : EReal} {E E' : Nat} (h : IsExp x E) (h' : IsExp x E') : E = E' := by
  have key : ∀ {A B : Nat}, IsExp x A → IsExp x B → ¬A < B := by
    intro A B hA hB l
    rcases hA.2.2 with e | e
    · exact absurd hB.1 (by omega)
    rcases hB.2.1 with e' | e'
    · omega
    exact absurd (e.trans_le ((pw_le (show A + 1 ≤ B by omega) (by have := hB.1; omega)).trans e')) (lt_irrefl _)
  exact Nat.le_antisymm (not_lt.1 (key h' h)) (not_lt.1 (key h h'))

theorem Found.isExp {x : EReal} {f : BitVec 32} {E : Nat} (h : Found x 0 f E) : IsExp x (min E 252) := by
  obtain ⟨-, -, h2, hlo, hhi⟩ := h
  refine ⟨by omega, ?_, ?_⟩
  · rcases hlo with e | e
    · exact .inl (by omega)
    · exact .inr ((pw_le (by omega) (by omega)).trans e)
  · by_cases c : 252 ≤ E
    · exact .inl (by omega)
    · rcases hhi with e | e
      · omega
      · rw [show min E 252 = E by omega]; exact .inr e

theorem exists_isExp (x : EReal) : ∃ E, IsExp x E := by
  obtain ⟨E, h⟩ := field_found (S := ⟨0, ![]⟩) (fun _ => x) ix0
  exact ⟨_, h.isExp⟩

/-- The exponent field of a row's scale; that of one where the row is zero. -/
def ex (x : EReal) : Nat := if x = 0 then 126 else (exists_isExp x).choose

theorem ex_le (x : EReal) : ex x ≤ 252 := by
  unfold ex
  split
  · omega
  · exact (exists_isExp x).choose_spec.1

theorem ex_eq {x : EReal} (hx : x ≠ 0) {E : Nat} (h : IsExp x E) : ex x = E := by
  unfold ex
  rw [if_neg hx]
  exact (exists_isExp x).choose_spec.unique h

/-- The scale, the least power of two above `x`, … -/
def sc (x : EReal) : EReal := pw (ex x + 1)
/-- … and its inverse. -/
def inv (x : EReal) : EReal := pw (253 - ex x)

theorem div_sc (x : EReal) : Ideal.div 1 (sc x) = inv x := by
  have := ex_le x
  unfold sc inv
  rw [div_pw _ (by omega) (by omega)]
  congr 1
  omega

theorem inv_word : ∀ E : Fin 256, IntOp.subi (2122317824#32) (IntOp.minsi (BitVec.ofNat 32 (E.val * 8388608)) 2113929216#32)
    = BitVec.ofNat 32 ((253 - min E.val 252) * 8388608) := by decide +kernel

theorem recip_word : ∀ E : Fin 255, IntOp.subi (2130706432#32) (BitVec.ofNat 32 (E.val * 8388608))
    = BitVec.ofNat 32 ((254 - E.val) * 8388608) := by decide +kernel

/-- The kernel's inverse scale. -/
theorem invOf_apply (s : FVec Ideal S .f32) (i : S.Idx) : invOf s i = inv (s i) := by
  obtain ⟨E, h⟩ := field_found s i
  have hE : E < 256 := by have := h.2.2.1; omega
  have hs : invOf s i = Scalar.select (Ideal.cmp .oeq (s i) (Ideal.ofBits .f32 0x00000000#32)) (Ideal.ofBits .f32 0x3F800000#32)
      (Ideal.ofBits .f32 (IntOp.subi 2122317824#32 (IntOp.minsi (field s i) 2113929216#32))) := by
    unfold invOf
    generalize field s = f
    rfl
  rw [hs, Ideal.ofBits_zero_f32, h.1, inv_word ⟨E, hE⟩]
  unfold inv
  by_cases c : s i = 0
  · rw [show Ideal.cmp .oeq (s i) 0 = 1#1 by unfold Ideal.cmp; simp [c], select_one, ex, if_pos c]
    rfl
  · rw [show Ideal.cmp .oeq (s i) 0 = 0#1 by unfold Ideal.cmp; simp [c], select_zero, ex_eq c h.isExp]
    rfl

/-- The kernel's reciprocal of a power. -/
theorem recip_apply (v : FVec Ideal S .f32) (i : S.Idx) (k : Nat) (h1 : 1 ≤ k) (h2 : k ≤ 252 + 1) (hv : v i = pw k) :
    recip v i = pw (254 - k) := by
  obtain ⟨E, h⟩ := field_found v i
  have e : E = k := by
    obtain ⟨-, -, h3, hlo, hhi⟩ := h
    rw [hv] at hlo hhi
    by_contra ne
    rcases Nat.lt_or_gt_of_ne ne with l | l
    · rcases hhi with e | e
      · omega
      · exact absurd e (not_lt.2 (pw_le (by omega) (by omega)))
    · rcases hlo with e | e
      · omega
      · exact absurd e (not_le.2 (pw_lt l (by omega)))
  have hs : recip v i = Ideal.ofBits .f32 (IntOp.subi 2130706432#32 (field v i)) := by
    unfold recip
    generalize field v = f
    rfl
  rw [hs, h.1, e, recip_word ⟨k, by omega⟩]
  rfl

theorem recip_inv (v : FVec Ideal S .f32) (i : S.Idx) (x : EReal) (hv : v i = inv x) : recip v i = sc x := by
  have := ex_le x
  rw [recip_apply v i (253 - ex x) (by omega) (by omega) hv]
  unfold sc
  congr 1
  omega

theorem recip_sc (v : FVec Ideal S .f32) (i : S.Idx) (x : EReal) (hv : v i = sc x) : recip v i = inv x := by
  have := ex_le x
  rw [recip_apply v i (ex x + 1) (by omega) (by omega) hv]
  unfold inv
  congr 1
  omega

/-! ## The table -/

/-- The least power of the table above `x`, the largest one where there is none. -/
theorem table_min (x : EReal) (E : Nat) (h : IsExp x E) :
    (Finset.univ : Finset (Fin 253)).fold min ⊤ (fun k => if x < pw (k.val + 1) then pw (k.val + 1) else pw 253)
      = pw (E + 1) := by
  obtain ⟨h1, hlo, hhi⟩ := h
  refine le_antisymm ?_ ?_
  · refine Finset.fold_min_le (pw (E + 1)) |>.2 (.inr ⟨⟨E, by omega⟩, Finset.mem_univ _, ?_⟩)
    show (if x < pw (E + 1) then pw (E + 1) else pw 253) ≤ pw (E + 1)
    split
    · exact le_rfl
    · rename_i c
      rcases hhi with e | e
      · rw [e]
      · exact absurd e c
  · refine Finset.le_fold_min (pw (E + 1)) |>.2 ⟨le_top, fun k _ => ?_⟩
    have hk := k.isLt
    split
    · rename_i c
      refine pw_le ?_ (by omega)
      by_contra l
      rcases hlo with e | e
      · omega
      · exact absurd (c.trans_le ((pw_le (show k.val + 1 ≤ E by omega) (by omega)).trans e)) (lt_irrefl _)
    · exact pw_le (by omega) (by omega)

end Cert.Scale
-- ==== Proof.Spec.lean ====
/- The problem's mathematics, row by row, at the extended reals, and the two laws that the kernel's order of work needs:
   a largest magnitude and a sum of squares taken lane by lane, and a scale multiplied in after the maximum. -/
module

public import proofs.«01_k».proof.Proof.Scale

@[expose] public section

set_option maxRecDepth 16384

noncomputable section

namespace Cert.Spec

open Idealize.ShloMosaic Idealize.ShloMosaic.ValueIdx
open Cert.Scale

/-! ## What is computed -/

/-- The inverse root mean square of a row. -/
def rms (x : Fin 5120 → EReal) : EReal :=
  Ideal.rsqrt (Ideal.div (∑ k, x k * x k) (Ideal.ofBits .f32 0x45A00000#32) + Ideal.ofBits .f32 0x358637BD#32)

/-- The normalised row. -/
def hv (x g : Fin 5120 → EReal) (k : Fin 5120) : EReal := x k * rms x * g k

/-- The magnitude. -/
def mag (a : EReal) : EReal := max a (-a)

/-- The largest magnitude of a row. -/
def amax {n : Nat} (v : Fin n → EReal) : EReal := (Finset.univ : Finset (Fin n)).fold max ⊥ fun k => mag (v k)

/-- The largest magnitude over 448: what the scale is taken of. -/
def top {n : Nat} (v : Fin n → EReal) : EReal := amax v * Ideal.ofBits .f32 0x3B124925#32

/-- Clipping to the range of the codes. -/
def clipE (z : EReal) : EReal := min (Ideal.ofBits .f32 0x43E00000#32) (max (Ideal.ofBits .f32 0xC3E00000#32) z)

/-- The code of an entry of a row. -/
def code {n : Nat} (v : Fin n → EReal) (k : Fin n) : EReal := clipE (v k * inv (top v))

/-- The scale of a row. -/
def scl {n : Nat} (v : Fin n → EReal) : EReal := sc (top v)

/-- An output: the product of the row's codes with a column, times the row's scale, times the column's. -/
def yv (x g : Fin 5120 → EReal) (w : Fin 5120 → EReal) (ws : EReal) : EReal :=
  (∑ k, code (hv x g) k * w k) * scl (hv x g) * ws

/-! ## Positive numbers -/

theorem ofBits_pos (b : BitVec 32) (h1 : (b.extractLsb' 31 1 == 1#1) = false)
    (h2 : (b.extractLsb' 23 8).toNat ≠ 255) (h3 : (b.extractLsb' 23 8).toNat ≠ 0) :
    ∃ r : ℝ, 0 < r ∧ Ideal.ofBits .f32 b = (r : EReal) := by
  unfold Ideal.ofBits
  show ∃ r : ℝ, 0 < r ∧ Ideal.ieee 8 23 b = (r : EReal)
  unfold Ideal.ieee
  simp only [show 8 + 23 = 31 from rfl, h1]
  rw [if_neg (by simpa using h2), if_neg (by simpa using h3)]
  refine ⟨_, ?_, rfl⟩
  simp only [Bool.false_eq_true, if_false]
  positivity

theorem pos_5120 : ∃ r : ℝ, 0 < r ∧ Ideal.ofBits .f32 0x45A00000#32 = (r : EReal) :=
  ofBits_pos _ (by decide) (by decide) (by decide)
theorem pos_eps : ∃ r : ℝ, 0 < r ∧ Ideal.ofBits .f32 0x358637BD#32 = (r : EReal) :=
  ofBits_pos _ (by decide) (by decide) (by decide)
theorem pos_448 : ∃ r : ℝ, 0 < r ∧ Ideal.ofBits .f32 0x3B124925#32 = (r : EReal) :=
  ofBits_pos _ (by decide) (by decide) (by decide)

theorem sq_nonneg' (a : EReal) : 0 ≤ a * a := by
  rcases le_total 0 a with h | h
  · exact mul_nonneg h h
  · have := mul_nonneg (EReal.neg_nonneg.2 h) (EReal.neg_nonneg.2 h)
    rwa [neg_mul_neg] at this

/-- The inverse root mean square is a real number, not negative. -/
theorem rms_real (x : Fin 5120 → EReal) : ∃ r : ℝ, 0 ≤ r ∧ rms x = (r : EReal) := by
  obtain ⟨n, hn, en⟩ := pos_5120
  obtain ⟨e, he, ee⟩ := pos_eps
  have h0 : 0 ≤ ∑ k, x k * x k := Finset.sum_nonneg fun k _ => sq_nonneg' (x k)
  unfold rms
  rw [en, ee]
  generalize (∑ k, x k * x k) = q at h0
  have hd : 0 ≤ Ideal.div q (n : EReal) := by
    unfold Ideal.div
    rw [if_neg (by exact_mod_cast hn.ne'), ← EReal.coe_inv]
    exact mul_nonneg h0 (by exact_mod_cast (inv_pos.2 hn).le)
  generalize Ideal.div q (n : EReal) = d at hd
  induction d with
  | bot => exact absurd hd (by simp)
  | top => exact ⟨0, le_rfl, by rw [EReal.top_add_coe]; rfl⟩
  | coe d =>
    have hd' : 0 ≤ d := by exact_mod_cast hd
    rw [← EReal.coe_add, Ideal.rsqrt_coe, if_neg (by linarith), if_neg (by linarith)]
    exact ⟨_, inv_nonneg.2 (Real.sqrt_nonneg _), rfl⟩

/-! ## The maximum -/

theorem mag_nonneg (a : EReal) : 0 ≤ mag a := by
  rcases le_total 0 a with h | h
  · exact h.trans (le_max_left _ _)
  · exact (EReal.neg_nonneg.2 h).trans (le_max_right _ _)

theorem mag_mul (a : EReal) (r : ℝ) (hr : 0 ≤ r) : mag (a * r) = mag a * r := by
  have m : Monotone fun z : EReal => z * (r : EReal) :=
    fun _ _ h => mul_le_mul_of_nonneg_right h (by exact_mod_cast hr)
  unfold mag
  rw [← EReal.neg_mul]
  exact (m.map_max (a := a) (b := -a)).symm

/-- The largest magnitude may start at zero. -/
theorem amax_zero {n : Nat} (v : Fin (n + 1) → EReal) :
    amax v = (Finset.univ : Finset (Fin (n + 1))).fold max 0 fun k => mag (v k) := by
  refine eq_of_forall_ge_iff fun c => ?_
  unfold amax
  rw [Finset.fold_max_le, Finset.fold_max_le]
  refine and_congr_left fun h => ⟨fun _ => (mag_nonneg _).trans (h 0 (Finset.mem_univ _)), fun _ => bot_le⟩

theorem fold_mul {ι : Type} [DecidableEq ι] (s : Finset ι) (f : ι → EReal) (r : ℝ) (hr : 0 ≤ r) :
    s.fold max 0 f * (r : EReal) = s.fold max 0 fun k => f k * (r : EReal) := by
  have m : Monotone fun z : EReal => z * (r : EReal) :=
    fun _ _ h => mul_le_mul_of_nonneg_right h (by exact_mod_cast hr)
  induction s using Finset.induction_on with
  | empty => simp
  | insert a s ha ih =>
    rw [Finset.fold_insert ha, Finset.fold_insert ha, ← ih]
    exact m.map_max

/-- A factor that is real and not negative may be multiplied in after the maximum. -/
theorem amax_mul {n : Nat} (v : Fin (n + 1) → EReal) (r : ℝ) (hr : 0 ≤ r) :
    amax v * (r : EReal) = amax fun k => v k * (r : EReal) := by
  rw [amax_zero, amax_zero, fold_mul _ _ r hr]
  simp only [mag_mul _ r hr]

/-! ## Lane by lane -/

/-- Lane `l` of lane block `c`. -/
def at128 (c : Nat) (hc : c < 40) (l : Fin 128) : Fin 5120 := ⟨128 * c + l.val, by omega⟩

theorem at128_div (k : Fin 5120) : at128 (k.val / 128) (by omega) ⟨k.val % 128, by omega⟩ = k :=
  Fin.ext (by show 128 * (k.val / 128) + k.val % 128 = k.val; omega)

/-- The running maximum of a lane. -/
def laneMax (v : Fin 5120 → EReal) (l : Fin 128) : (n : Nat) → n ≤ 40 → EReal
  | 0, _ => 0
  | n + 1, hn => max (laneMax v l n (by omega)) (mag (v (at128 n (by omega) l)))

theorem laneMax_le (v : Fin 5120 → EReal) (l : Fin 128) (c : EReal) (n : Nat) (hn : n ≤ 40) :
    laneMax v l n hn ≤ c ↔ 0 ≤ c ∧ ∀ j (hj : j < n), mag (v (at128 j (by omega) l)) ≤ c := by
  induction n with
  | zero => exact ⟨fun h => ⟨h, fun _ h => absurd h (by omega)⟩, fun h => h.1⟩
  | succ n ih =>
    show max _ _ ≤ c ↔ _
    rw [max_le_iff, ih (by omega), and_assoc]
    refine and_congr_right fun _ => ⟨fun h j hj => ?_, fun h => ⟨fun j hj => h j (by omega), h n (by omega)⟩⟩
    rcases Nat.lt_succ_iff_lt_or_eq.1 hj with hj | rfl
    · exact h.1 j hj
    · exact h.2

/-- The maximum over the lanes of the running maxima is the row's. -/
theorem lanes_max (v : Fin 5120 → EReal) :
    (Finset.univ : Finset (Fin 128)).fold max ⊥ (fun l => laneMax v l 40 le_rfl) = amax v := by
  rw [amax_zero (n := 5119) v]
  refine eq_of_forall_ge_iff fun c => ?_
  rw [Finset.fold_max_le, Finset.fold_max_le]
  constructor
  · intro h
    refine ⟨((laneMax_le v 0 c 40 le_rfl).1 (h.2 0 (Finset.mem_univ _))).1, fun k _ => ?_⟩
    have := ((laneMax_le v ⟨k.val % 128, by omega⟩ c 40 le_rfl).1 (h.2 _ (Finset.mem_univ _))).2 (k.val / 128) (by omega)
    rwa [at128_div] at this
  · intro h
    exact ⟨bot_le, fun l _ => (laneMax_le v l c 40 le_rfl).2 ⟨h.1, fun j _ => h.2 _ (Finset.mem_univ _)⟩⟩

/-- The running sum of squares of a lane. -/
def laneSum (x : Fin 5120 → EReal) (l : Fin 128) : (n : Nat) → n ≤ 40 → EReal
  | 0, _ => 0
  | n + 1, hn => laneSum x l n (by omega) + x (at128 n (by omega) l) * x (at128 n (by omega) l)

theorem laneSum_eq (x : Fin 5120 → EReal) (l : Fin 128) (n : Nat) (hn : n ≤ 40) :
    laneSum x l n hn = ∑ j : Fin n, x (at128 j.val (by omega) l) * x (at128 j.val (by omega) l) := by
  induction n with
  | zero => simp [laneSum]
  | succ n ih =>
    rw [Fin.sum_univ_castSucc]
    show laneSum x l n _ + _ = _
    rw [ih (by omega)]
    rfl

/-- The sum over the lanes of the running sums is the row's. -/
theorem lanes_sum (x : Fin 5120 → EReal) : ∑ l : Fin 128, laneSum x l 40 le_rfl = ∑ k, x k * x k := by
  simp only [laneSum_eq]
  rw [Finset.sum_comm, ← Fintype.sum_prod_type']
  refine Fintype.sum_equiv (finProdFinEquiv (m := 40) (n := 128)) _ _ fun p => ?_
  have : at128 p.1.val (by omega) p.2 = finProdFinEquiv (m := 40) (n := 128) p :=
    Fin.ext (by show 128 * p.1.val + p.2.val = p.2.val + 128 * p.1.val; omega)
  rw [this]

/-! ## The kernel's order of work on a row -/

/-- The scale multiplied in after the maximum. -/
theorem top_hv (x g : Fin 5120 → EReal) :
    amax (fun k => x k * g k) * rms x * Ideal.ofBits .f32 0x3B124925#32 = top (hv x g) := by
  obtain ⟨r, hr, er⟩ := rms_real x
  unfold top
  congr 1
  rw [er, amax_mul (n := 5119) _ r hr]
  unfold hv
  rw [er]
  congr 1
  funext k
  exact mul_right_comm _ _ _

/-- The weighted activation times the product of the two factors is the normalised row times its inverse scale. -/
theorem code_hv (x g : Fin 5120 → EReal) (k : Fin 5120) :
    clipE (x k * g k * (rms x * inv (top (hv x g)))) = code (hv x g) k := by
  unfold code
  congr 1
  rw [← mul_assoc]
  congr 1
  exact mul_right_comm _ _ _

end Cert.Spec
-- ==== Proof.RefRows.lean ====
/- The reference's results, entry by entry: the mathematics of Spec.lean. -/
module

public import proofs.«01_k».proof.Proof.Gen.ReferenceIdeal.Frame
public import proofs.«01_k».proof.Proof.Spec
public import Idealize.ShloMosaic.Lib.Pipeline.Value
public import Idealize.ShloMosaic.Lib.Pointwise.ShapeOpsCore

@[expose] public section

set_option maxRecDepth 16384

noncomputable section

namespace Cert.ReferenceIdeal.Rows

open Idealize.ShloMosaic hiding ix0 ix1 ix2 ix3 ix4
open Idealize.ShloMosaic.ValueIdx
open Cert.ReferenceIdeal Cert.ReferenceIdeal.Gen Cert.Scale Cert.Spec

/-! ## The table of powers -/

/-- Entry `k` of the table. -/
def tab (k : Nat) : EReal :=
  Ideal.exp2 ((((IntOp.subi (BitVec.ofNat 32 k) 126#32).toInt : ℝ)) : EReal)

theorem tab_word : ∀ k : Fin 253, (IntOp.subi (BitVec.ofNat 32 k.val) 126#32).toInt = (k.val : ℤ) - 126 := by
  decide +kernel

theorem tab_eq (k : Fin 253) : tab k.val = pw (k.val + 1) := by
  have := k.isLt
  unfold tab
  rw [tab_word, Ideal.exp2_coe, pw_mid _ (by omega) (by omega)]
  congr 1
  show (2 : ℝ) ^ ((((k.val : ℤ) - 126 : ℤ) : ℝ)) = _
  rw [Real.rpow_intCast]
  congr 1
  push_cast
  ring

theorem pw_bits (E : Nat) (b : BitVec 32) (h : BitVec.ofNat 32 (E * 8388608) = b) : Ideal.ofBits .f32 b = pw E :=
  congrArg (Ideal.ofBits .f32) h.symm

theorem select_cmp (p : Prop) [Decidable p] (a b : EReal) :
    Scalar.select (BitVec.ofBool (decide p)) a b = if p then a else b := by
  by_cases c : p
  · rw [if_pos c, decide_eq_true c]; exact select_one _ _
  · rw [if_neg c, decide_eq_false c]; exact select_zero _ _

theorem cmpB (p : CmpFPredicate) (a b : Ideal .f32) : FloatOps.cmpf p a b = Ideal.cmp p a b := rfl

theorem ofB (b : BitVec 32) : (FloatOps.ofBits .f32 b : Ideal .f32) = Ideal.ofBits .f32 b := rfl

/-- The scale as the reference takes it. -/
theorem scale_eq (a s : EReal) (hs : s = a * Ideal.ofBits .f32 0x3B124925#32) :
    Scalar.select (Ideal.cmp .oeq a (Ideal.ofBits .f32 0x00000000#32)) (Ideal.ofBits .f32 0x3F800000#32)
      ((Finset.univ : Finset (Fin 253)).fold min (Ideal.ofBits .f32 0x7F800000#32) fun k =>
        Scalar.select (Ideal.cmp .olt s (tab k.val)) (tab k.val) (Ideal.ofBits .f32 0x7E800000#32)) = sc s := by
  obtain ⟨r, hr, er⟩ := pos_448
  have h0 : a = 0 ↔ s = 0 := by
    rw [hs, er, mul_eq_zero]
    refine ⟨.inl, fun h => h.resolve_right ?_⟩
    exact_mod_cast hr.ne'
  rw [pw_bits 0 0x00000000#32 (by decide), pw_bits 127 0x3F800000#32 (by decide), pw_bits 255 0x7F800000#32 (by decide),
    pw_bits 253 0x7E800000#32 (by decide), pw_zero, pw_top]
  have hf : ((Finset.univ : Finset (Fin 253)).fold min ⊤ fun k =>
        Scalar.select (Ideal.cmp .olt s (tab k.val)) (tab k.val) (pw 253))
      = (Finset.univ : Finset (Fin 253)).fold min ⊤ (fun k => if s < pw (k.val + 1) then pw (k.val + 1) else pw 253) := by
    refine congrArg (fun f => (Finset.univ : Finset (Fin 253)).fold min ⊤ f) (funext fun k => ?_)
    rw [tab_eq k]
    unfold Ideal.cmp
    exact select_cmp _ _ _
  rw [hf]
  obtain ⟨E, hE⟩ := exists_isExp s
  rw [table_min s E hE]
  unfold sc Ideal.cmp
  refine (select_cmp _ _ _).trans ?_
  by_cases c : a = 0
  · rw [if_pos c, ex, if_pos (h0.1 c)]
  · rw [if_neg c, ex_eq (fun h => c (h0.2 h)) hE]

/-! ## Layout -/

section Layout

variable {α : Type}

theorem bc3 {n : Nat} (v : S4x6144x1.Idx → α) (h : S4x6144x1.Broadcasts ⟨3, ![4, 6144, n]⟩) (b : Fin 4) (t : Fin 6144) (k : Fin n) :
    broadcastTo ⟨3, ![4, 6144, n]⟩ v h (ix3 b t k) = v (ix3 b t 0) :=
  broadcastTo_apply v h _ _ fun a => by
    match a with
    | ⟨0, _⟩ => rfl
    | ⟨1, _⟩ => rfl
    | ⟨2, _⟩ => rfl

theorem bcRow {n : Nat} (v : (⟨3, ![1, 1, n]⟩ : Shape).Idx → α) (h : (⟨3, ![1, 1, n]⟩ : Shape).Broadcasts ⟨3, ![4, 6144, n]⟩)
    (hn : n ≠ 1) (b : Fin 4) (t : Fin 6144) (k : Fin n) :
    broadcastTo ⟨3, ![4, 6144, n]⟩ v h (ix3 b t k) = v (ix3 0 0 k) :=
  broadcastTo_apply v h _ _ fun a => by
    match a with
    | ⟨0, _⟩ => rfl
    | ⟨1, _⟩ => rfl
    | ⟨2, _⟩ => exact (if_neg hn).symm

theorem bc4 {n : Nat} (v : S4x6144x5x1.Idx → α) (h : S4x6144x5x1.Broadcasts ⟨4, ![4, 6144, 5, n]⟩) (b : Fin 4) (t : Fin 6144)
    (j : Fin 5) (k : Fin n) : broadcastTo ⟨4, ![4, 6144, 5, n]⟩ v h (ix4 b t j k) = v (ix4 b t j 0) :=
  broadcastTo_apply v h _ _ fun a => by
    match a with
    | ⟨0, _⟩ => rfl
    | ⟨1, _⟩ => rfl
    | ⟨2, _⟩ => rfl
    | ⟨3, _⟩ => rfl

theorem unit3 (v : S4x6144.Idx → α) (b : Fin 4) (t : Fin 6144) :
    shapeCast S4x6144x1 v shapeCasts_S4x6144_S4x6144x1 (ix3 b t 0) = v (ix2 b t) :=
  shapeCast_apply v _ _ _ (by
    rw [Shape.rowMajor_val_two, Shape.rowMajor_val_three]
    show b.val * 6144 + t.val = (b.val * 6144 + t.val) * 1 + 0
    omega)

theorem unit4 (v : S4x6144x5.Idx → α) (b : Fin 4) (t : Fin 6144) (j : Fin 5) :
    shapeCast S4x6144x5x1 v shapeCasts_S4x6144x5_S4x6144x5x1 (ix4 b t j 0) = v (ix3 b t j) :=
  shapeCast_apply v _ _ _ (by
    rw [Shape.rowMajor_val_three, Shape.rowMajor_val_four]
    show (b.val * 6144 + t.val) * 5 + j.val = ((b.val * 6144 + t.val) * 5 + j.val) * 1 + 0
    omega)

/-- A third of the columns, cut into heads. -/
theorem heads (v : S4x6144x1920.Idx → α) (o : Nat) (ho : o + 640 ≤ 1920) (h : S4x6144x1920.Slices ![0, 0, o] S4x6144x640) (b : Fin 4)
    (t : Fin 6144) (j : Fin 5) (l : Fin 128) :
    shapeCast S4x6144x5x128 (extractStridedSlice S4x6144x640 ![0, 0, o] v h) shapeCasts_S4x6144x640_S4x6144x5x128 (ix4 b t j l)
      = v (ix3 b t ⟨o + (128 * j.val + l.val), by omega⟩) := by
  rw [shapeCast_apply _ _ (ix4 b t j l) (ix3 b t ⟨128 * j.val + l.val, by omega⟩ : S4x6144x640.Idx) (by
    rw [Shape.rowMajor_val_three, Shape.rowMajor_val_four]
    show (b.val * 6144 + t.val) * 640 + (128 * j.val + l.val) = ((b.val * 6144 + t.val) * 5 + j.val) * 128 + l.val
    omega)]
  exact extractStridedSlice_apply _ v h _ _ fun a => by
    match a with
    | ⟨0, _⟩ => exact (Nat.zero_add _).symm
    | ⟨1, _⟩ => exact (Nat.zero_add _).symm
    | ⟨2, _⟩ => rfl

end Layout

theorem lift3 {n : Nat} (h : (⟨3, ![4, 6144, n]⟩ : Shape).Reduces [2] S4x6144) (b : Fin 4) (t : Fin 6144) (k : Fin n) :
    h.lift (ix2 b t) k = ix3 b t k := by
  funext a
  match a with
  | ⟨0, _⟩ => rfl
  | ⟨1, _⟩ => rfl
  | ⟨2, _⟩ => rfl

theorem lift4 {n : Nat} (h : (⟨4, ![4, 6144, 5, n]⟩ : Shape).Reduces [3] S4x6144x5) (b : Fin 4) (t : Fin 6144) (j : Fin 5) (k : Fin n) :
    h.lift (ix3 b t j) k = ix4 b t j k := by
  funext a
  match a with
  | ⟨0, _⟩ => rfl
  | ⟨1, _⟩ => rfl
  | ⟨2, _⟩ => rfl
  | ⟨3, _⟩ => rfl

theorem ofBits_bot : Ideal.ofBits .f32 0xFF800000#32 = ⊥ := by
  unfold Ideal.ofBits
  show Ideal.ieee 8 23 0xFF800000#32 = ⊥
  unfold Ideal.ieee
  simp [show ((0xFF800000#32).extractLsb' 31 1 : BitVec 1) = 1#1 by decide,
    show ((0xFF800000#32).extractLsb' 23 8 : BitVec 8) = 255#8 by decide,
    show ((0xFF800000#32).extractLsb' 0 23 : BitVec 23) = 0#23 by decide]

/-! ## The scale of a row, rank 3 -/

/-- The largest magnitudes. -/
def qmax3 (v : FVec Ideal S4x6144x5120 .f32) : FVec Ideal S4x6144 .f32 :=
  multiReduction .maximumf [2] S4x6144 (absf v) 0xFF800000#32 reduces_S4x6144x5120_S4x6144 (.inl rfl) rfl

/-- The table, at every row. -/
def qpow3 : FVec Ideal S4x6144x253 .f32 :=
  exp2 (sitofp .f32 (subi (iota .tc S4x6144x253 32 [2] iota_S4x6144x253_d2_w32) (broadcast S4x6144x253 126#32)))

/-- The table's entries above the row's largest magnitude over 448. -/
def qsel3 (a : FVec Ideal S4x6144 .f32) : FVec Ideal S4x6144x253 .f32 :=
  select (cmpf .olt (broadcastTo S4x6144x253 (shapeCast S4x6144x1 (mulf a (broadcast S4x6144 (Scalar.ofBits .f32 0x3B124925#32)))
    shapeCasts_S4x6144_S4x6144x1) broadcasts_S4x6144x1_S4x6144x253) qpow3) qpow3
    (broadcast S4x6144x253 (Scalar.ofBits .f32 0x7E800000#32))

/-- The least of them. -/
def qmin3 (a : FVec Ideal S4x6144 .f32) : FVec Ideal S4x6144 .f32 :=
  multiReduction .minimumf [2] S4x6144 (qsel3 a) 0x7F800000#32 reduces_S4x6144x253_S4x6144 (.inl rfl) rfl

/-- The scales. -/
def qs3 (v : FVec Ideal S4x6144x5120 .f32) : FVec Ideal S4x6144 .f32 :=
  select (cmpf .oeq (qmax3 v) (broadcast S4x6144 (Scalar.ofBits .f32 0x00000000#32)))
    (broadcast S4x6144 (Scalar.ofBits .f32 0x3F800000#32))
    (qmin3 (qmax3 v))

theorem qmax3_apply (v : FVec Ideal S4x6144x5120 .f32) (b : Fin 4) (t : Fin 6144) :
    qmax3 v (ix2 b t) = amax fun k => v (ix3 b t k) := by
  unfold qmax3 amax
  refine (Ideal.multiReduction_maximumf_single _ _ _ _ _ _).trans ?_
  refine congrArg₂ (fun z f => Finset.fold max z f Finset.univ) ofBits_bot (funext fun k => ?_)
  exact congrArg (absf v) (lift3 _ b t k)

theorem qpow3_apply (b : Fin 4) (t : Fin 6144) (k : Fin 253) : qpow3 (ix3 b t k) = tab k.val := by
  refine congrArg (fun z : Nat => Ideal.exp2 ((((IntOp.subi (BitVec.ofNat 32 z) 126#32).toInt : ℝ)) : EReal)) ?_
  show 0 * 253 + k.val = k.val
  omega

theorem qsel3_apply (a : FVec Ideal S4x6144 .f32) (b : Fin 4) (t : Fin 6144) (k : Fin 253) :
    qsel3 a (ix3 b t k) = Scalar.select (Ideal.cmp .olt (a (ix2 b t) * Ideal.ofBits .f32 0x3B124925#32) (tab k.val)) (tab k.val)
      (Ideal.ofBits .f32 0x7E800000#32) := by
  have h : qsel3 a (ix3 b t k) = Scalar.select (Ideal.cmp .olt
      (broadcastTo S4x6144x253 (shapeCast S4x6144x1 (mulf a (broadcast S4x6144 (Scalar.ofBits (F := Ideal) .f32 0x3B124925#32)))
        shapeCasts_S4x6144_S4x6144x1) broadcasts_S4x6144x1_S4x6144x253 (ix3 b t k)) (qpow3 (ix3 b t k)))
      (qpow3 (ix3 b t k)) (Ideal.ofBits .f32 0x7E800000#32) := rfl
  rw [h, qpow3_apply, bc3, unit3]
  rfl

theorem qmin3_apply (a : FVec Ideal S4x6144 .f32) (b : Fin 4) (t : Fin 6144) :
    qmin3 a (ix2 b t) = (Finset.univ : Finset (Fin 253)).fold min (Ideal.ofBits .f32 0x7F800000#32) fun k =>
      Scalar.select (Ideal.cmp .olt (a (ix2 b t) * Ideal.ofBits .f32 0x3B124925#32) (tab k.val)) (tab k.val)
        (Ideal.ofBits .f32 0x7E800000#32) := by
  unfold qmin3
  refine (multiReduction_minimumf_eq_fold _ _ _ _ _ _).trans ((Shape.Reduces.fold_filter_drop_single _ _ _ _ _).trans ?_)
  refine congrArg (fun f => Finset.fold min (Ideal.ofBits .f32 0x7F800000#32) f Finset.univ) (funext fun k => ?_)
  exact (congrArg (qsel3 a) (lift3 _ b t k)).trans (qsel3_apply _ b t k)

theorem qs3_eq (v : FVec Ideal S4x6144x5120 .f32) (b : Fin 4) (t : Fin 6144) :
    qs3 v (ix2 b t) = Scalar.select (Ideal.cmp .oeq (qmax3 v (ix2 b t)) (Ideal.ofBits .f32 0x00000000#32))
      (Ideal.ofBits .f32 0x3F800000#32) (qmin3 (qmax3 v) (ix2 b t)) := by
  unfold qs3
  rw [select_apply, cmpf_apply, broadcast_apply, broadcast_apply, ofB, ofB, cmpB]

theorem qs3_apply (v : FVec Ideal S4x6144x5120 .f32) (b : Fin 4) (t : Fin 6144) :
    qs3 v (ix2 b t) = scl fun k => v (ix3 b t k) := by
  rw [qs3_eq, qmin3_apply, qmax3_apply]
  unfold scl top
  generalize (amax fun k => v (ix3 b t k)) = a
  exact scale_eq a (a * Ideal.ofBits .f32 0x3B124925#32) rfl

/-! ## The scale of a row, rank 4 -/

/-- The largest magnitudes. -/
def qmax4 (v : FVec Ideal S4x6144x5x128 .f32) : FVec Ideal S4x6144x5 .f32 :=
  multiReduction .maximumf [3] S4x6144x5 (absf v) 0xFF800000#32 reduces_S4x6144x5x128_S4x6144x5 (.inl rfl) rfl

/-- The table, at every row. -/
def qpow4 : FVec Ideal S4x6144x5x253 .f32 :=
  exp2 (sitofp .f32 (subi (iota .tc S4x6144x5x253 32 [3] iota_S4x6144x5x253_d3_w32) (broadcast S4x6144x5x253 126#32)))

/-- The table's entries above the row's largest magnitude over 448. -/
def qsel4 (a : FVec Ideal S4x6144x5 .f32) : FVec Ideal S4x6144x5x253 .f32 :=
  select (cmpf .olt (broadcastTo S4x6144x5x253 (shapeCast S4x6144x5x1 (mulf a (broadcast S4x6144x5 (Scalar.ofBits .f32 0x3B124925#32)))
    shapeCasts_S4x6144x5_S4x6144x5x1) broadcasts_S4x6144x5x1_S4x6144x5x253) qpow4) qpow4
    (broadcast S4x6144x5x253 (Scalar.ofBits .f32 0x7E800000#32))

/-- The least of them. -/
def qmin4 (a : FVec Ideal S4x6144x5 .f32) : FVec Ideal S4x6144x5 .f32 :=
  multiReduction .minimumf [3] S4x6144x5 (qsel4 a) 0x7F800000#32 reduces_S4x6144x5x253_S4x6144x5 (.inl rfl) rfl

/-- The scales. -/
def qs4 (v : FVec Ideal S4x6144x5x128 .f32) : FVec Ideal S4x6144x5 .f32 :=
  select (cmpf .oeq (qmax4 v) (broadcast S4x6144x5 (Scalar.ofBits .f32 0x00000000#32)))
    (broadcast S4x6144x5 (Scalar.ofBits .f32 0x3F800000#32))
    (qmin4 (qmax4 v))

theorem qmax4_apply (v : FVec Ideal S4x6144x5x128 .f32) (b : Fin 4) (t : Fin 6144) (j : Fin 5) :
    qmax4 v (ix3 b t j) = amax fun k => v (ix4 b t j k) := by
  unfold qmax4 amax
  refine (Ideal.multiReduction_maximumf_single _ _ _ _ _ _).trans ?_
  refine congrArg₂ (fun z f => Finset.fold max z f Finset.univ) ofBits_bot (funext fun k => ?_)
  exact congrArg (absf v) (lift4 _ b t j k)

theorem qpow4_apply (b : Fin 4) (t : Fin 6144) (j : Fin 5) (k : Fin 253) : qpow4 (ix4 b t j k) = tab k.val := by
  refine congrArg (fun z : Nat => Ideal.exp2 ((((IntOp.subi (BitVec.ofNat 32 z) 126#32).toInt : ℝ)) : EReal)) ?_
  show 0 * 253 + k.val = k.val
  omega

theorem qsel4_apply (a : FVec Ideal S4x6144x5 .f32) (b : Fin 4) (t : Fin 6144) (j : Fin 5) (k : Fin 253) :
    qsel4 a (ix4 b t j k) = Scalar.select (Ideal.cmp .olt (a (ix3 b t j) * Ideal.ofBits .f32 0x3B124925#32) (tab k.val)) (tab k.val)
      (Ideal.ofBits .f32 0x7E800000#32) := by
  have h : qsel4 a (ix4 b t j k) = Scalar.select (Ideal.cmp .olt
      (broadcastTo S4x6144x5x253 (shapeCast S4x6144x5x1 (mulf a (broadcast S4x6144x5 (Scalar.ofBits (F := Ideal) .f32 0x3B124925#32)))
        shapeCasts_S4x6144x5_S4x6144x5x1) broadcasts_S4x6144x5x1_S4x6144x5x253 (ix4 b t j k)) (qpow4 (ix4 b t j k)))
      (qpow4 (ix4 b t j k)) (Ideal.ofBits .f32 0x7E800000#32) := rfl
  rw [h, qpow4_apply, bc4, unit4]
  rfl

theorem qmin4_apply (a : FVec Ideal S4x6144x5 .f32) (b : Fin 4) (t : Fin 6144) (j : Fin 5) :
    qmin4 a (ix3 b t j) = (Finset.univ : Finset (Fin 253)).fold min (Ideal.ofBits .f32 0x7F800000#32) fun k =>
      Scalar.select (Ideal.cmp .olt (a (ix3 b t j) * Ideal.ofBits .f32 0x3B124925#32) (tab k.val)) (tab k.val)
        (Ideal.ofBits .f32 0x7E800000#32) := by
  unfold qmin4
  refine (multiReduction_minimumf_eq_fold _ _ _ _ _ _).trans ((Shape.Reduces.fold_filter_drop_single _ _ _ _ _).trans ?_)
  refine congrArg (fun f => Finset.fold min (Ideal.ofBits .f32 0x7F800000#32) f Finset.univ) (funext fun k => ?_)
  exact (congrArg (qsel4 a) (lift4 _ b t j k)).trans (qsel4_apply _ b t j k)

theorem qs4_eq (v : FVec Ideal S4x6144x5x128 .f32) (b : Fin 4) (t : Fin 6144) (j : Fin 5) :
    qs4 v (ix3 b t j) = Scalar.select (Ideal.cmp .oeq (qmax4 v (ix3 b t j)) (Ideal.ofBits .f32 0x00000000#32))
      (Ideal.ofBits .f32 0x3F800000#32) (qmin4 (qmax4 v) (ix3 b t j)) := by
  unfold qs4
  rw [select_apply, cmpf_apply, broadcast_apply, broadcast_apply, ofB, ofB, cmpB]

theorem qs4_apply (v : FVec Ideal S4x6144x5x128 .f32) (b : Fin 4) (t : Fin 6144) (j : Fin 5) :
    qs4 v (ix3 b t j) = scl fun k => v (ix4 b t j k) := by
  rw [qs4_eq, qmin4_apply, qmax4_apply]
  unfold scl top
  generalize (amax fun k => v (ix4 b t j k)) = a
  exact scale_eq a (a * Ideal.ofBits .f32 0x3B124925#32) rfl

/-! ## The codes of a row -/

/-- Scaled, and clipped: rank 3. -/
def qc3 (v : FVec Ideal S4x6144x5120 .f32) : FVec Ideal S4x6144x5120 .f32 :=
  mulf v (broadcastTo S4x6144x5120 (shapeCast S4x6144x1 (divf (broadcast S4x6144 (Scalar.ofBits .f32 0x3F800000#32)) (qs3 v))
    shapeCasts_S4x6144_S4x6144x1) broadcasts_S4x6144x1_S4x6144x5120)

/-- Scaled: rank 4. -/
def qc4 (v : FVec Ideal S4x6144x5x128 .f32) : FVec Ideal S4x6144x5x128 .f32 :=
  mulf v (broadcastTo S4x6144x5x128 (shapeCast S4x6144x5x1 (divf (broadcast S4x6144x5 (Scalar.ofBits .f32 0x3F800000#32)) (qs4 v))
    shapeCasts_S4x6144x5_S4x6144x5x1) broadcasts_S4x6144x5x1_S4x6144x5x128)

theorem one_div (s : EReal) : Ideal.div (Ideal.ofBits .f32 0x3F800000#32) (sc s) = inv s := by
  rw [pw_bits 127 0x3F800000#32 (by decide), pw_one, div_sc]

theorem qc3_apply (v : FVec Ideal S4x6144x5120 .f32) (b : Fin 4) (t : Fin 6144) (k : Fin 5120) :
    qc3 v (ix3 b t k) = v (ix3 b t k) * inv (top fun k => v (ix3 b t k)) := by
  refine congrArg (v (ix3 b t k) * ·) ?_
  rw [bc3, unit3]
  rw [divf_apply, broadcast_apply, ofB]
  rw [qs3_apply]
  exact one_div _

theorem qc4_apply (v : FVec Ideal S4x6144x5x128 .f32) (b : Fin 4) (t : Fin 6144) (j : Fin 5) (l : Fin 128) :
    qc4 v (ix4 b t j l) = v (ix4 b t j l) * inv (top fun l => v (ix4 b t j l)) := by
  refine congrArg (v (ix4 b t j l) * ·) ?_
  rw [bc4, unit4]
  rw [divf_apply, broadcast_apply, ofB]
  rw [qs4_apply]
  exact one_div _

/-! ## The normalised activations -/

variable (x : FVec Ideal S4x6144x5120 .bf16) (g : FVec Ideal S1x1x5120 .bf16)

/-- Token `t` of batch `b`. -/
def rowX (b : Fin 4) (t : Fin 6144) (k : Fin 5120) : EReal := x (ix3 b t k)
/-- The weights of the norm. -/
def rowG (k : Fin 5120) : EReal := g (ix3 0 0 k)

/-- The sums of squares. -/
def ssq : FVec Ideal S4x6144 .f32 :=
  multiReduction .add [2] S4x6144 (mulf (extf .f32 x bitsLt_bf16_f32 : FVec Ideal S4x6144x5120 .f32) (extf .f32 x bitsLt_bf16_f32))
    0x00000000#32 reduces_S4x6144x5120_S4x6144 (.inl rfl) rfl

theorem ssq_apply (b : Fin 4) (t : Fin 6144) : ssq x (ix2 b t) = ∑ k, rowX x b t k * rowX x b t k := by
  unfold ssq
  refine (Ideal.multiReduction_add_single _ _ _ _ _ _).trans (Finset.sum_congr rfl fun k _ => ?_)
  exact congrArg (mulf (extf .f32 x bitsLt_bf16_f32 : FVec Ideal S4x6144x5120 .f32) (extf .f32 x bitsLt_bf16_f32)) (lift3 _ b t k)

/-- The inverse root mean squares. -/
def irms : FVec Ideal S4x6144x1 .f32 :=
  rsqrt (addf (divf (shapeCast S4x6144x1 (ssq x) shapeCasts_S4x6144_S4x6144x1) (broadcast S4x6144x1 (Scalar.ofBits .f32 0x45A00000#32)))
    (broadcast S4x6144x1 (Scalar.ofBits .f32 0x358637BD#32)))

theorem irms_apply (b : Fin 4) (t : Fin 6144) : irms x (ix3 b t 0) = rms (rowX x b t) := by
  show Ideal.rsqrt (Ideal.div (shapeCast S4x6144x1 (ssq x) shapeCasts_S4x6144_S4x6144x1 (ix3 b t 0)) (Ideal.ofBits .f32 0x45A00000#32)
    + Ideal.ofBits .f32 0x358637BD#32) = _
  rw [unit3, ssq_apply]
  rfl

theorem norm_apply (b : Fin 4) (t : Fin 6144) (k : Fin 5120) :
    k0_pay1 (F := Ideal) x g (ix3 b t k) = hv (rowX x b t) (rowG g) k := by
  have h : k0_pay1 (F := Ideal) x g (ix3 b t k)
      = x (ix3 b t k) * broadcastTo S4x6144x5120 (irms x) broadcasts_S4x6144x1_S4x6144x5120 (ix3 b t k)
        * broadcastTo S4x6144x5120 (extf (F := Ideal) .f32 (shapeCast S1x1x5120 g shapeCasts_S1x1x5120_S1x1x5120) bitsLt_bf16_f32)
          broadcasts_S1x1x5120_S4x6144x5120 (ix3 b t k) := rfl
  rw [h, bc3, irms_apply, bcRow _ _ (by omega), shapeCast_self]
  rfl

/-- The scale of a row. -/
theorem xscale_apply (b : Fin 4) (t : Fin 6144) : k0_pay2 (F := Ideal) x g (ix2 b t) = scl (hv (rowX x b t) (rowG g)) := by
  have h : k0_pay2 (F := Ideal) x g = qs3 (k0_pay1 (F := Ideal) x g) := rfl
  rw [h, qs3_apply]
  simp only [norm_apply]

/-- The scaled row. -/
theorem scaled_apply (b : Fin 4) (t : Fin 6144) (k : Fin 5120) :
    k0_pay3 (F := Ideal) x g (ix3 b t k) = hv (rowX x b t) (rowG g) k * inv (top (hv (rowX x b t) (rowG g))) := by
  have h : k0_pay3 (F := Ideal) x g = qc3 (k0_pay1 (F := Ideal) x g) := rfl
  rw [h, qc3_apply]
  simp only [norm_apply]

end Cert.ReferenceIdeal.Rows
-- ==== Proof.RefHeads.lean ====
/- The reference's eight results, entry by entry. -/
module

public import proofs.«01_k».proof.Proof.RefRows
public import Idealize.ShloMosaic.Lib.MatmulPlain

@[expose] public section

set_option maxRecDepth 16384

noncomputable section

namespace Cert.ReferenceIdeal.Rows

open Idealize.ShloMosaic hiding ix0 ix1 ix2 ix3 ix4
open Idealize.ShloMosaic.ValueIdx
open Cert.ReferenceIdeal Cert.ReferenceIdeal.Gen Cert.Scale Cert.Spec

variable (x : FVec Ideal S4x6144x5120 .bf16) (g : FVec Ideal S1x1x5120 .bf16) (w : FVec Ideal S5120x1920 .fp8e4m3)
  (ws : FVec Ideal S1x1x1920 .f32)

/-- The row's codes. -/
def codes3 : FVec Ideal S4x6144x5120 .fp8e4m3 :=
  k0_pay4 (F := Ideal) (k0_pay3 (F := Ideal) x g) (Scalar.ofBits .f32 0xC3E00000#32) (Scalar.ofBits .f32 0x43E00000#32)

theorem codes3_apply (b : Fin 4) (t : Fin 6144) (k : Fin 5120) :
    codes3 x g (ix3 b t k) = code (hv (rowX x b t) (rowG g)) k := by
  unfold codes3 code
  rw [← scaled_apply]
  generalize k0_pay3 (F := Ideal) x g = v
  unfold k0_pay4 clipE
  rw [truncf_apply, minimumf_apply, maximumf_apply, broadcast_apply, broadcast_apply, ofB, ofB]

/-- The outputs. -/
def yR (b : Fin 4) (t : Fin 6144) (n : Fin 1920) : EReal :=
  yv (rowX x b t) (rowG g) (fun k => w (ix2 k n)) (ws (ix3 0 0 n))

theorem dot_apply (a : FVec Ideal S4x6144x5120 .fp8e4m3) (b : Fin 4) (t : Fin 6144) (n : Fin 1920) :
    matmul (F := Ideal) dot_S4x6144x5120_S5120x1920_S4x6144x1920_2_0_01_1_n_n none a w (constant S4x6144x1920 .f32 0x00000000#32)
      (ix3 b t n) = ∑ k : Fin 5120, a (ix3 b t k) * w (ix2 k n) := by
  refine (Ideal.matmul_constant_zero_apply _ none a w (ix3 b t n)).trans ?_
  rw [← Equiv.sum_comp (contrEquiv1 dot_S4x6144x5120_S5120x1920_S4x6144x1920_2_0_01_1_n_n 5120 rfl rfl).symm]
  refine Finset.sum_congr rfl fun k _ => ?_
  have hk := contrEquiv1_symm_val dot_S4x6144x5120_S5120x1920_S4x6144x1920_2_0_01_1_n_n 5120 rfl rfl k
  refine congrArg₂ (· * ·) (congrArg a ?_) (congrArg w ?_)
  · funext i; apply Fin.ext
    match i with
    | ⟨0, _⟩ => rfl
    | ⟨1, _⟩ => rfl
    | ⟨2, _⟩ => exact hk
  · funext i; apply Fin.ext
    match i with
    | ⟨0, _⟩ => exact hk
    | ⟨1, _⟩ => rfl

/-- The outputs as the reference computes them. -/
def outs : FVec Ideal S4x6144x1920 .f32 :=
  k0_pay5 (F := Ideal) (k0_pay2 (F := Ideal) x g) (k0_pay3 (F := Ideal) x g) (Scalar.ofBits .f32 0xC3E00000#32)
    (Scalar.ofBits .f32 0x43E00000#32) w ws

theorem outs_apply (b : Fin 4) (t : Fin 6144) (n : Fin 1920) : outs x g w ws (ix3 b t n) = yR x g w ws b t n := by
  have h : outs x g w ws = mulf (mulf (matmul (F := Ideal) dot_S4x6144x5120_S5120x1920_S4x6144x1920_2_0_01_1_n_n none (codes3 x g) w
      (constant S4x6144x1920 .f32 0x00000000#32)) (broadcastTo S4x6144x1920 (shapeCast S4x6144x1 (k0_pay2 (F := Ideal) x g)
        shapeCasts_S4x6144_S4x6144x1) broadcasts_S4x6144x1_S4x6144x1920))
      (broadcastTo S4x6144x1920 (shapeCast S1x1x1920 ws shapeCasts_S1x1x1920_S1x1x1920) broadcasts_S1x1x1920_S4x6144x1920) := rfl
  rw [h, mulf_apply, mulf_apply, dot_apply, bc3, unit3, xscale_apply, bcRow _ _ (by omega), shapeCast_self]
  unfold yR yv
  simp only [codes3_apply]

/-- A third of the outputs, cut into heads. -/
def hd (o : Nat) (h : S4x6144x1920.Slices ![0, 0, o] S4x6144x640) : FVec Ideal S4x6144x5x128 .f32 :=
  shapeCast S4x6144x5x128 (extractStridedSlice S4x6144x640 ![0, 0, o] (outs x g w ws) h) shapeCasts_S4x6144x640_S4x6144x5x128

/-- The outputs of head `j` of the third that begins at column `o`. -/
def yHead (o : Nat) (ho : o + 640 ≤ 1920) (b : Fin 4) (t : Fin 6144) (j : Fin 5) (l : Fin 128) : EReal :=
  yR x g w ws b t ⟨o + (128 * j.val + l.val), by omega⟩

theorem hd_apply (o : Nat) (ho : o + 640 ≤ 1920) (h : S4x6144x1920.Slices ![0, 0, o] S4x6144x640) (b : Fin 4) (t : Fin 6144)
    (j : Fin 5) (l : Fin 128) : hd x g w ws o h (ix4 b t j l) = yHead x g w ws o ho b t j l := by
  unfold hd
  rw [heads _ o ho, outs_apply]
  rfl

/-- The head's codes. -/
def codes4 (v : FVec Ideal S4x6144x5x128 .f32) : FVec Ideal S4x6144x5x128 .fp8e4m3 :=
  truncf .fp8e4m3 (minimumf (broadcast S4x6144x5x128 (Scalar.ofBits .f32 0x43E00000#32))
    (maximumf (broadcast S4x6144x5x128 (Scalar.ofBits .f32 0xC3E00000#32)) (qc4 v))) bitsLt_fp8e4m3_f32

theorem codes4_apply (v : FVec Ideal S4x6144x5x128 .f32) (b : Fin 4) (t : Fin 6144) (j : Fin 5) (l : Fin 128) :
    codes4 v (ix4 b t j l) = code (fun l => v (ix4 b t j l)) l := by
  unfold codes4 code clipE
  rw [truncf_apply, minimumf_apply, maximumf_apply, broadcast_apply, broadcast_apply, ofB, ofB, qc4_apply]

theorem head_code (o : Nat) (ho : o + 640 ≤ 1920) (h : S4x6144x1920.Slices ![0, 0, o] S4x6144x640) (b : Fin 4) (t : Fin 6144)
    (j : Fin 5) (l : Fin 128) : codes4 (hd x g w ws o h) (ix4 b t j l) = code (yHead x g w ws o ho b t j) l := by
  rw [codes4_apply]
  simp only [hd_apply x g w ws o ho h]

theorem head_scale (o : Nat) (ho : o + 640 ≤ 1920) (h : S4x6144x1920.Slices ![0, 0, o] S4x6144x640) (b : Fin 4) (t : Fin 6144)
    (j : Fin 5) : qs4 (hd x g w ws o h) (ix3 b t j) = scl (yHead x g w ws o ho b t j) := by
  rw [qs4_apply]
  simp only [hd_apply x g w ws o ho h]

/-! ## The results -/

theorem z2 : (![0, 0] : Fin 2 → Nat) = fun _ => 0 := by funext a; match a with | ⟨0, _⟩ => rfl | ⟨1, _⟩ => rfl
theorem z3 : (![0, 0, 0] : Fin 3 → Nat) = fun _ => 0 := by
  funext a; match a with | ⟨0, _⟩ => rfl | ⟨1, _⟩ => rfl | ⟨2, _⟩ => rfl
theorem z4 : (![0, 0, 0, 0] : Fin 4 → Nat) = fun _ => 0 := by
  funext a; match a with | ⟨0, _⟩ => rfl | ⟨1, _⟩ => rfl | ⟨2, _⟩ => rfl | ⟨3, _⟩ => rfl

theorem ld0 : View.ld (Val := Elt Ideal) (e' := .bf16) x r0_0 = x :=
  View.ld_unit_zero (Val := Elt Ideal) (S := S4x6144x5120) (e := .bf16) z3 _ x
theorem ld1 : View.ld (Val := Elt Ideal) (e' := .bf16) g r0_1 = g :=
  View.ld_unit_zero (Val := Elt Ideal) (S := S1x1x5120) (e := .bf16) z3 _ g
theorem ld2 : View.ld (Val := Elt Ideal) (e' := .fp8e4m3) w r0_2 = w :=
  View.ld_unit_zero (Val := Elt Ideal) (S := S5120x1920) (e := .fp8e4m3) z2 _ w
theorem ld3 : View.ld (Val := Elt Ideal) (e' := .f32) ws r0_3 = ws :=
  View.ld_unit_zero (Val := Elt Ideal) (S := S1x1x1920) (e := .f32) z3 _ ws

theorem pay16 : k0_pay16 (F := Ideal) x g w ws = k0_pay2 (F := Ideal) x g := by
  unfold k0_pay16; rw [ld0, ld1]
theorem pay17 : k0_pay17 (F := Ideal) x g w ws = k0_pay3 (F := Ideal) x g := by
  unfold k0_pay17; rw [ld0, ld1]
theorem pay18 : k0_pay18 (F := Ideal) x g w ws = outs x g w ws := by
  unfold k0_pay18 outs; rw [pay16, pay17, ld2, ld3]

theorem q_codes (b : Fin 4) (t : Fin 6144) (j : Fin 5) (l : Fin 128) :
    out0_4 (F := Ideal) x g w ws (ix4 b t j l) = code (yHead x g w ws 0 (by omega) b t j) l := by
  have h : out0_4 (F := Ideal) x g w ws = codes4 (hd x g w ws 0 slices_S4x6144x1920_o0_0_0_S4x6144x640) := by
    unfold out0_4
    rw [View.canon_cons_unit_zero z4, pay16, pay17, ld2, ld3]
    rfl
  rw [h]; exact head_code ..

theorem q_scale (b : Fin 4) (t : Fin 6144) (j : Fin 5) :
    out0_5 (F := Ideal) x g w ws (ix3 b t j) = scl (yHead x g w ws 0 (by omega) b t j) := by
  have h : out0_5 (F := Ideal) x g w ws = qs4 (hd x g w ws 0 slices_S4x6144x1920_o0_0_0_S4x6144x640) := by
    unfold out0_5
    rw [View.canon_cons_unit_zero z3, pay16, pay17, ld2, ld3]
    rfl
  rw [h]; exact head_scale ..

theorem k_codes (b : Fin 4) (t : Fin 6144) (j : Fin 5) (l : Fin 128) :
    out0_6 (F := Ideal) x g w ws (ix4 b t j l) = code (yHead x g w ws 640 (by omega) b t j) l := by
  have h : out0_6 (F := Ideal) x g w ws = codes4 (hd x g w ws 640 slices_S4x6144x1920_o0_0_640_S4x6144x640) := by
    unfold out0_6
    rw [View.canon_cons_unit_zero z4, pay18]
    rfl
  rw [h]; exact head_code ..

theorem k_scale (b : Fin 4) (t : Fin 6144) (j : Fin 5) :
    out0_7 (F := Ideal) x g w ws (ix3 b t j) = scl (yHead x g w ws 640 (by omega) b t j) := by
  have h : out0_7 (F := Ideal) x g w ws = qs4 (hd x g w ws 640 slices_S4x6144x1920_o0_0_640_S4x6144x640) := by
    unfold out0_7
    rw [View.canon_cons_unit_zero z3, pay18]
    rfl
  rw [h]; exact head_scale ..

theorem v_codes (b : Fin 4) (t : Fin 6144) (j : Fin 5) (l : Fin 128) :
    out0_8 (F := Ideal) x g w ws (ix4 b t j l) = code (yHead x g w ws 1280 (by omega) b t j) l := by
  have h : out0_8 (F := Ideal) x g w ws = codes4 (hd x g w ws 1280 slices_S4x6144x1920_o0_0_1280_S4x6144x640) := by
    unfold out0_8
    rw [View.canon_cons_unit_zero z4, pay18]
    rfl
  rw [h]; exact head_code ..

theorem v_scale (b : Fin 4) (t : Fin 6144) (j : Fin 5) :
    out0_9 (F := Ideal) x g w ws (ix3 b t j) = scl (yHead x g w ws 1280 (by omega) b t j) := by
  have h : out0_9 (F := Ideal) x g w ws = qs4 (hd x g w ws 1280 slices_S4x6144x1920_o0_0_1280_S4x6144x640) := by
    unfold out0_9
    rw [View.canon_cons_unit_zero z3, pay18]
    rfl
  rw [h]; exact head_scale ..

theorem x_codes (b : Fin 4) (t : Fin 6144) (k : Fin 5120) :
    out0_10 (F := Ideal) x g w ws (ix3 b t k) = code (hv (rowX x b t) (rowG g)) k := by
  have h : out0_10 (F := Ideal) x g w ws = codes3 x g := by
    unfold out0_10
    rw [View.canon_cons_unit_zero z3, pay17]
    rfl
  rw [h, codes3_apply]

theorem x_scale (b : Fin 4) (t : Fin 6144) :
    out0_11 (F := Ideal) x g w ws (ix2 b t) = scl (hv (rowX x b t) (rowG g)) := by
  have h : out0_11 (F := Ideal) x g w ws = k0_pay2 (F := Ideal) x g := by
    unfold out0_11
    rw [View.canon_cons_unit_zero z2, pay16]
  rw [h, xscale_apply]

end Cert.ReferenceIdeal.Rows
-- ==== Proof.Results.lean ====
/- The eight results as functions of the four arguments, over the extended reals. -/
module

public import proofs.«01_k».proof.Proof.Spec

@[expose] public section

noncomputable section

namespace Cert.Spec

open Idealize.ShloMosaic Idealize.ShloMosaic.ValueIdx
open Cert.Scale

variable (x : (⟨3, ![4, 6144, 5120]⟩ : Shape).Idx → EReal) (g : (⟨1, ![5120]⟩ : Shape).Idx → EReal)
  (w : (⟨2, ![5120, 1920]⟩ : Shape).Idx → EReal) (ws : (⟨1, ![1920]⟩ : Shape).Idx → EReal)

/-- A token's normalised row. -/
def hRow (b : Fin 4) (t : Fin 6144) : Fin 5120 → EReal := hv (fun k => x (ix3 b t k)) (fun k => g (ix1 k))

/-- A token's output in column `n`. -/
def yOut (b : Fin 4) (t : Fin 6144) (n : Fin 1920) : EReal :=
  yv (fun k => x (ix3 b t k)) (fun k => g (ix1 k)) (fun k => w (ix2 k n)) (ws (ix1 n))

/-- A token's outputs in head `j` of the third that begins at column `o`. -/
def yRow (o : Nat) (ho : o + 640 ≤ 1920) (b : Fin 4) (t : Fin 6144) (j : Fin 5) (l : Fin 128) : EReal :=
  yOut x g w ws b t ⟨o + (128 * j.val + l.val), by omega⟩

/-- The codes of a third's heads. -/
def headCodes (o : Nat) (ho : o + 640 ≤ 1920) : (⟨4, ![4, 6144, 5, 128]⟩ : Shape).Idx → EReal :=
  fun i => code (yRow x g w ws o ho (i 0) (i 1) (i 2)) (i 3)

/-- The scales of a third's heads. -/
def headScales (o : Nat) (ho : o + 640 ≤ 1920) : (⟨3, ![4, 6144, 5]⟩ : Shape).Idx → EReal :=
  fun i => scl (yRow x g w ws o ho (i 0) (i 1) (i 2))

/-- The codes of the normalised rows. -/
def rowCodes : (⟨3, ![4, 6144, 5120]⟩ : Shape).Idx → EReal := fun i => code (hRow x g (i 0) (i 1)) (i 2)

/-- The scales of the normalised rows. -/
def rowScales : (⟨2, ![4, 6144]⟩ : Shape).Idx → EReal := fun i => scl (hRow x g (i 0) (i 1))

/-! An index is its coordinates. -/

theorem eta2 {n0 n1 : Nat} (i : (⟨2, ![n0, n1]⟩ : Shape).Idx) : ∃ (a : Fin n0) (b : Fin n1), i = ix2 a b :=
  ⟨i 0, i 1, by
    funext a
    match a with
    | ⟨0, _⟩ => rfl
    | ⟨1, _⟩ => rfl⟩

theorem eta3 {n0 n1 n2 : Nat} (i : (⟨3, ![n0, n1, n2]⟩ : Shape).Idx) : ∃ (a : Fin n0) (b : Fin n1) (c : Fin n2), i = ix3 a b c :=
  ⟨i 0, i 1, i 2, by
    funext a
    match a with
    | ⟨0, _⟩ => rfl
    | ⟨1, _⟩ => rfl
    | ⟨2, _⟩ => rfl⟩

theorem eta4 {n0 n1 n2 n3 : Nat} (i : (⟨4, ![n0, n1, n2, n3]⟩ : Shape).Idx) :
    ∃ (a : Fin n0) (b : Fin n1) (c : Fin n2) (d : Fin n3), i = ix4 a b c d :=
  ⟨i 0, i 1, i 2, i 3, by
    funext a
    match a with
    | ⟨0, _⟩ => rfl
    | ⟨1, _⟩ => rfl
    | ⟨2, _⟩ => rfl
    | ⟨3, _⟩ => rfl⟩

end Cert.Spec
-- ==== Proof.RefOut.lean ====
/- The reference's result arrays as functions of its arguments. -/
module

public import proofs.«01_k».proof.Proof.RefHeads
public import proofs.«01_k».proof.Proof.Results
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Rows

open Idealize.ShloMosaic hiding ix0 ix1 ix2 ix3 ix4
open Idealize.ShloMosaic.ValueIdx Idealize.ShloMosaic.TcCoe
open Idealize.ShloMosaic.Pipeline (Dat)
open Cert.ReferenceIdeal Cert.ReferenceIdeal.Gen Cert.Scale Cert.Spec

variable (m : (ℓ : Loc nD τ sig) → Buf (Elt Ideal) ℓ) (c : Dev nD)

/-- The arguments. -/
abbrev a0 : FVec Ideal S4x6144x5120 .bf16 := m ((c.tc : Thread nD τ).loc main_arg0)
abbrev a1 : FVec Ideal S5120 .bf16 := m ((c.tc : Thread nD τ).loc main_arg1)
abbrev a2 : FVec Ideal S5120x1920 .fp8e4m3 := m ((c.tc : Thread nD τ).loc main_arg2)
abbrev a3 : FVec Ideal S1920 .f32 := m ((c.tc : Thread nD τ).loc main_arg3)

theorem V_v0 : V m c main_v0 = shapeCast S1x1x5120 (a1 m c) shapeCasts_S5120_S1x1x5120 := by
  entry_read
  rfl

theorem V_v1 : V m c main_v1 = shapeCast S1x1x1920 (a3 m c) shapeCasts_S1920_S1x1x1920 := by
  entry_read
  rfl

/-! ## The blocks: every window is its whole array -/

theorem e0 : ∀ t : Fin cfg0.N, win0_0.index t = ![0, 0, 0] := (by decide +kernel : ∀ t : Fin grid0.N, win0_0.index t = ![0, 0, 0])
theorem e1 : ∀ t : Fin cfg0.N, win0_1.index t = ![0, 0, 0] := (by decide +kernel : ∀ t : Fin grid0.N, win0_1.index t = ![0, 0, 0])
theorem e2 : ∀ t : Fin cfg0.N, win0_2.index t = ![0, 0] := (by decide +kernel : ∀ t : Fin grid0.N, win0_2.index t = ![0, 0])
theorem e3 : ∀ t : Fin cfg0.N, win0_3.index t = ![0, 0, 0] := (by decide +kernel : ∀ t : Fin grid0.N, win0_3.index t = ![0, 0, 0])

theorem b0 (t : Fin cfg0.N) (b : Fin 4) (u : Fin 6144) (k : Fin 5120) :
    iblk m c 0 t (ix3 b u k : S4x6144x5120.Idx) = a0 m c (ix3 b u k) := by
  blk_simp [iblk]
  refine (congrFun (V_main_arg0 m c) _).trans (congrArg (a0 m c) ?_)
  blk_ext [e0]

theorem b1 (t : Fin cfg0.N) (k : Fin 5120) : iblk m c 1 t (ix3 0 0 k : S1x1x5120.Idx) = a1 m c (ix1 k) := by
  blk_simp [iblk]
  refine (congrFun (V_v0 m c) _).trans ?_
  refine (congrArg (shapeCast S1x1x5120 (a1 m c) shapeCasts_S5120_S1x1x5120) (show _ = (ix3 0 0 k : S1x1x5120.Idx) from ?_)).trans ?_
  · blk_ext [e1]
  · exact shapeCast_apply _ _ _ _ (by
      rw [Shape.rowMajor_val_one, Shape.rowMajor_val_three]
      show k.val = (0 * 1 + 0) * 5120 + k.val
      omega)

theorem b2 (t : Fin cfg0.N) (k : Fin 5120) (n : Fin 1920) : iblk m c 2 t (ix2 k n : S5120x1920.Idx) = a2 m c (ix2 k n) := by
  blk_simp [iblk]
  refine (congrFun (V_main_arg2 m c) _).trans (congrArg (a2 m c) ?_)
  blk_ext [e2]

theorem b3 (t : Fin cfg0.N) (n : Fin 1920) : iblk m c 3 t (ix3 0 0 n : S1x1x1920.Idx) = a3 m c (ix1 n) := by
  blk_simp [iblk]
  refine (congrFun (V_v1 m c) _).trans ?_
  refine (congrArg (shapeCast S1x1x1920 (a3 m c) shapeCasts_S1920_S1x1x1920) (show _ = (ix3 0 0 n : S1x1x1920.Idx) from ?_)).trans ?_
  · blk_ext [e3]
  · exact shapeCast_apply _ _ _ _ (by
      rw [Shape.rowMajor_val_one, Shape.rowMajor_val_three]
      show n.val = (0 * 1 + 0) * 1920 + n.val
      omega)

theorem h_eq (t : Fin cfg0.N) (b : Fin 4) (u : Fin 6144) :
    hv (rowX (iblk m c 0 t) b u) (rowG (iblk m c 1 t)) = hRow (a0 m c) (a1 m c) b u :=
  congrArg₂ hv (funext fun k => b0 m c t b u k) (funext fun k => b1 m c t k)

theorem y_eq (t : Fin cfg0.N) (o : Nat) (ho : o + 640 ≤ 1920) (b : Fin 4) (u : Fin 6144) (j : Fin 5) :
    yHead (iblk m c 0 t) (iblk m c 1 t) (iblk m c 2 t) (iblk m c 3 t) o ho b u j
      = yRow (a0 m c) (a1 m c) (a2 m c) (a3 m c) o ho b u j := by
  funext l
  unfold yHead yR yRow yOut
  have h0 : rowX (iblk m c 0 t) b u = fun k => a0 m c (ix3 b u k) := funext fun k => b0 m c t b u k
  have h1 : rowG (iblk m c 1 t) = fun k => a1 m c (ix1 k) := funext fun k => b1 m c t k
  rw [h0, h1]
  exact congrArg₂ (yv _ _) (funext fun k => b2 m c t k _) (b3 m c t _)

/-! ## The results -/

theorem e4 : ∀ t : Fin cfg0.N, win0_4.index t = ![0, 0, 0, 0] := (by decide +kernel : ∀ t : Fin grid0.N, win0_4.index t = ![0, 0, 0, 0])
theorem e5 : ∀ t : Fin cfg0.N, win0_5.index t = ![0, 0, 0] := (by decide +kernel : ∀ t : Fin grid0.N, win0_5.index t = ![0, 0, 0])
theorem e6 : ∀ t : Fin cfg0.N, win0_6.index t = ![0, 0, 0, 0] := (by decide +kernel : ∀ t : Fin grid0.N, win0_6.index t = ![0, 0, 0, 0])
theorem e7 : ∀ t : Fin cfg0.N, win0_7.index t = ![0, 0, 0] := (by decide +kernel : ∀ t : Fin grid0.N, win0_7.index t = ![0, 0, 0])
theorem e8 : ∀ t : Fin cfg0.N, win0_8.index t = ![0, 0, 0, 0] := (by decide +kernel : ∀ t : Fin grid0.N, win0_8.index t = ![0, 0, 0, 0])
theorem e9 : ∀ t : Fin cfg0.N, win0_9.index t = ![0, 0, 0] := (by decide +kernel : ∀ t : Fin grid0.N, win0_9.index t = ![0, 0, 0])
theorem e10 : ∀ t : Fin cfg0.N, win0_10.index t = ![0, 0, 0] := (by decide +kernel : ∀ t : Fin grid0.N, win0_10.index t = ![0, 0, 0])
theorem e11 : ∀ t : Fin cfg0.N, win0_11.index t = ![0, 0] := (by decide +kernel : ∀ t : Fin grid0.N, win0_11.index t = ![0, 0])

theorem final4 : (dats m 0 c).arrAt 4 cfg0.N = headCodes (a0 m c) (a1 m c) (a2 m c) (a3 m c) 0 (by omega) := by
  refine (dats m 0 c).arrAt_eq_of_covers 4 _ (by decide +kernel) fun t hf y => ?_
  blk_simp
  rw [after0_4]
  have hy : ((win0_4.blk t).view.emb y : S4x6144x5x128.Idx) = y := by blk_ext [e4]
  rw [hy]
  obtain ⟨b, u, j, l, rfl⟩ : ∃ b u j l, y = (ix4 b u j l : S4x6144x5x128.Idx) := eta4 y
  exact (q_codes _ _ _ _ b u j l).trans (congrArg (fun f => code f l) (y_eq m c t 0 (by omega) b u j))

theorem final5 : (dats m 0 c).arrAt 5 cfg0.N = headScales (a0 m c) (a1 m c) (a2 m c) (a3 m c) 0 (by omega) := by
  refine (dats m 0 c).arrAt_eq_of_covers 5 _ (by decide +kernel) fun t hf y => ?_
  blk_simp
  rw [after0_5]
  have hy : ((win0_5.blk t).view.emb y : S4x6144x5.Idx) = y := by blk_ext [e5]
  rw [hy]
  obtain ⟨b, u, j, rfl⟩ : ∃ b u j, y = (ix3 b u j : S4x6144x5.Idx) := eta3 y
  exact (q_scale _ _ _ _ b u j).trans (congrArg scl (y_eq m c t 0 (by omega) b u j))

theorem final6 : (dats m 0 c).arrAt 6 cfg0.N = headCodes (a0 m c) (a1 m c) (a2 m c) (a3 m c) 640 (by omega) := by
  refine (dats m 0 c).arrAt_eq_of_covers 6 _ (by decide +kernel) fun t hf y => ?_
  blk_simp
  rw [after0_6]
  have hy : ((win0_6.blk t).view.emb y : S4x6144x5x128.Idx) = y := by blk_ext [e6]
  rw [hy]
  obtain ⟨b, u, j, l, rfl⟩ : ∃ b u j l, y = (ix4 b u j l : S4x6144x5x128.Idx) := eta4 y
  exact (k_codes _ _ _ _ b u j l).trans (congrArg (fun f => code f l) (y_eq m c t 640 (by omega) b u j))

theorem final7 : (dats m 0 c).arrAt 7 cfg0.N = headScales (a0 m c) (a1 m c) (a2 m c) (a3 m c) 640 (by omega) := by
  refine (dats m 0 c).arrAt_eq_of_covers 7 _ (by decide +kernel) fun t hf y => ?_
  blk_simp
  rw [after0_7]
  have hy : ((win0_7.blk t).view.emb y : S4x6144x5.Idx) = y := by blk_ext [e7]
  rw [hy]
  obtain ⟨b, u, j, rfl⟩ : ∃ b u j, y = (ix3 b u j : S4x6144x5.Idx) := eta3 y
  exact (k_scale _ _ _ _ b u j).trans (congrArg scl (y_eq m c t 640 (by omega) b u j))

theorem final8 : (dats m 0 c).arrAt 8 cfg0.N = headCodes (a0 m c) (a1 m c) (a2 m c) (a3 m c) 1280 (by omega) := by
  refine (dats m 0 c).arrAt_eq_of_covers 8 _ (by decide +kernel) fun t hf y => ?_
  blk_simp
  rw [after0_8]
  have hy : ((win0_8.blk t).view.emb y : S4x6144x5x128.Idx) = y := by blk_ext [e8]
  rw [hy]
  obtain ⟨b, u, j, l, rfl⟩ : ∃ b u j l, y = (ix4 b u j l : S4x6144x5x128.Idx) := eta4 y
  exact (v_codes _ _ _ _ b u j l).trans (congrArg (fun f => code f l) (y_eq m c t 1280 (by omega) b u j))

theorem final9 : (dats m 0 c).arrAt 9 cfg0.N = headScales (a0 m c) (a1 m c) (a2 m c) (a3 m c) 1280 (by omega) := by
  refine (dats m 0 c).arrAt_eq_of_covers 9 _ (by decide +kernel) fun t hf y => ?_
  blk_simp
  rw [after0_9]
  have hy : ((win0_9.blk t).view.emb y : S4x6144x5.Idx) = y := by blk_ext [e9]
  rw [hy]
  obtain ⟨b, u, j, rfl⟩ : ∃ b u j, y = (ix3 b u j : S4x6144x5.Idx) := eta3 y
  exact (v_scale _ _ _ _ b u j).trans (congrArg scl (y_eq m c t 1280 (by omega) b u j))

theorem final10 : (dats m 0 c).arrAt 10 cfg0.N = rowCodes (a0 m c) (a1 m c) := by
  refine (dats m 0 c).arrAt_eq_of_covers 10 _ (by decide +kernel) fun t hf y => ?_
  blk_simp
  rw [after0_10]
  have hy : ((win0_10.blk t).view.emb y : S4x6144x5120.Idx) = y := by blk_ext [e10]
  rw [hy]
  obtain ⟨b, u, j, rfl⟩ : ∃ b u j, y = (ix3 b u j : S4x6144x5120.Idx) := eta3 y
  exact (x_codes _ _ _ _ b u j).trans (congrArg (fun f => code f j) (h_eq m c t b u))

theorem final11 : (dats m 0 c).arrAt 11 cfg0.N = rowScales (a0 m c) (a1 m c) := by
  refine (dats m 0 c).arrAt_eq_of_covers 11 _ (by decide +kernel) fun t hf y => ?_
  blk_simp
  rw [after0_11]
  have hy : ((win0_11.blk t).view.emb y : S4x6144.Idx) = y := by blk_ext [e11]
  rw [hy]
  obtain ⟨b, u, rfl⟩ : ∃ b u, y = (ix2 b u : S4x6144.Idx) := eta2 y
  exact (x_scale _ _ _ _ b u).trans (congrArg scl (h_eq m c t b u))

end Cert.ReferenceIdeal.Rows
-- ==== Proof.RefRun.lean ====
/- The reference's run, every result named by its value. -/
module

public import proofs.«01_k».proof.Proof.RefOut

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Scale Cert.Spec

variable (m : (ℓ : Loc nD τ sig) → Buf (Elt Ideal) ℓ) (ρ : Dev nD → PrngReg)

/-- The run: every result at its value, every argument unchanged. -/
theorem run_values : θ_run defs (onTc (τ := τ) (main (F := Ideal))) ⟨m, fun _ => 0, ρ⟩ (fun r => ∀ c : Dev nD,
      r.2.mem ((c.tc : Thread nD τ).loc main_v2_0) = headCodes (a0 m c) (a1 m c) (a2 m c) (a3 m c) 0 (by omega)
      ∧ r.2.mem ((c.tc : Thread nD τ).loc main_v2_1) = headScales (a0 m c) (a1 m c) (a2 m c) (a3 m c) 0 (by omega)
      ∧ r.2.mem ((c.tc : Thread nD τ).loc main_v2_2) = headCodes (a0 m c) (a1 m c) (a2 m c) (a3 m c) 640 (by omega)
      ∧ r.2.mem ((c.tc : Thread nD τ).loc main_v2_3) = headScales (a0 m c) (a1 m c) (a2 m c) (a3 m c) 640 (by omega)
      ∧ r.2.mem ((c.tc : Thread nD τ).loc main_v2_4) = headCodes (a0 m c) (a1 m c) (a2 m c) (a3 m c) 1280 (by omega)
      ∧ r.2.mem ((c.tc : Thread nD τ).loc main_v2_5) = headScales (a0 m c) (a1 m c) (a2 m c) (a3 m c) 1280 (by omega)
      ∧ r.2.mem ((c.tc : Thread nD τ).loc main_v2_6) = rowCodes (a0 m c) (a1 m c)
      ∧ r.2.mem ((c.tc : Thread nD τ).loc main_v2_7) = rowScales (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h0, h1, h2, h3, h4, h5, h6, h7, h⟩ := h c
    exact ⟨h0.trans (final4 m c), h1.trans (final5 m c), h2.trans (final6 m c), h3.trans (final7 m c), h4.trans (final8 m c), h5.trans (final9 m c), h6.trans (final10 m c), h7.trans (final11 m c), h⟩)
    (Cert.ReferenceIdeal.Value.run_blocks m ρ)

end Cert.ReferenceIdeal.Rows
-- ==== Proof.Mem.lean ====
/- One load and one store, on a buffer known by what it holds. -/
module

public import proofs.«01_k».proof.Proof.Body
public import proofs.«01_k».proof.Proof.Gen.KernelIdeal.Frame

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The weakest precondition of a piece of the body, on core `c`. -/
abbrev Wp (c : Dev nD) (E : Set ℕ) (p : Pg F) (K : PUnit → sProp 𝕄) : sProp 𝕄 :=
  wp frame (wpE (defs₀ (F := F)) Variants.none c none) E p K

/-- The contents `X` after `w` is put in the rectangle `r`. -/
def Put {s : Shape} {e : EltTy} (X : s.Idx → Elt F e) (r : Rect s) (w : r.shape.Idx → Elt F e)
    (X' : s.Idx → Elt F e) : Prop :=
  (∀ j, X' (r.idx j) = w j) ∧ ∀ i, (∀ j, r.idx j ≠ i) → X' i = X i

variable {s : Shape} {e : EltTy} (c : Dev nD) (E : Set ℕ)

/-- A load reads the contents at the rectangle's indices. -/
theorem wp_ld (K : PUnit → sProp 𝕄) {m : Memref sig .tc .vmem s e} {r : Rect s} {hl : m.view.LoadsAt r.toLoadRect}
    {k : (r.shape.Idx → Elt F e) → Pg F} {X : s.Idx → Elt F e} :
    owns (c : Thread nD τ) m fullShare X ⊢
      iprop((owns (c : Thread nD τ) m fullShare X -∗ Wp c E (k (View.ld X r)) K)
        -∗ Wp c E (.op (.load m r.toLoadRect hl) k) K) := by
  unfold owns
  iintro ⟨%f, %hf, H⟩ Hk
  subst hf
  ihave H' := (wp_load_rect (defs := defs₀ (F := F)) Variants.none (c : Thread nD τ) none E
    (Γ := ∅) (r := r) (hl := hl) (k := k) (Q := K) (View.set_slice_subset _ r)) $$ H
  iapply H'
  iintro H
  iapply Hk
  iexists f
  isplitr
  · ipureintro; rfl
  iexact H

/-- A store puts its payload in the rectangle. -/
theorem wp_st (K : PUnit → sProp 𝕄) {m : Memref sig .tc .vmem s e} {r : Rect s} {w : r.shape.Idx → Elt F e}
    {hx : (m.access r).Stores Finset.univ} {hm : Finset.univ = Finset.univ ∨ ∀ a, r.stride a = 1}
    {k : PUnit → Pg F} {X : s.Idx → Elt F e} :
    owns (c : Thread nD τ) m fullShare X ⊢
      iprop((∀ X', ⌜Put X r w X'⌝ -∗ owns (c : Thread nD τ) m fullShare X' -∗ Wp c E (k ⟨⟩) K)
        -∗ Wp c E (.op (.store m r w Finset.univ hx hm) k) K) := by
  unfold owns
  iintro ⟨%f, %hf, H⟩ Hk
  subst hf
  ihave H' := (wp_store (defs := defs₀ (F := F)) Variants.none (c : Thread nD τ) none E
    (Γ := ∅) (r := r) (w := w) (hx := hx) (hm := hm) (k := k) (Q := K) (View.set_slice_subset _ r)) $$ H
  iapply H'
  iintro H
  ihave Hk := Hk $$ %(m.view.read (Elt F) ((m.access r).write (Elt F) f w Finset.univ))
  iapply Hk
  · ipureintro
    refine ⟨fun j => View.read_slice_write_emb r f w (Finset.mem_univ j), fun i hi => ?_⟩
    refine View.read_slice_write_of_not_mem r f w _ fun hmem => ?_
    obtain ⟨j, -, hj⟩ := Finset.mem_map.mp hmem
    exact hi j hj
  · iexists _
    isplitr
    · ipureintro; rfl
    iexact H

end Cert.KernelIdeal.Body
-- ==== Proof.Pass.lean ====
/- One block of 32 rows: what the two passes leave in the scratch, in the scales and in the codes. -/
module

public import proofs.«01_k».proof.Proof.Mem
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- What was put is read back. -/
theorem Put.ld {s : Shape} {e : EltTy} {X X' : s.Idx → Elt F e} {r : Rect s} {w : r.shape.Idx → Elt F e}
    (h : Put X r w X') : View.ld X' r = w := funext h.1

/-- A rectangle apart from it, along some axis, reads what it did. -/
theorem Put.ld_other {s : Shape} {e : EltTy} {X X' : s.Idx → Elt F e} {off size off' size' : Fin s.rank → Nat}
    {inb : ∀ a, off a + size a ≤ s.size a} {inb' : ∀ a, off' a + size' a ≤ s.size a}
    {w : (Rect.unit off size inb).shape.Idx → Elt F e} (h : Put X (Rect.unit off size inb) w X') (a : Fin s.rank)
    (ha : off a + size a ≤ off' a ∨ off' a + size' a ≤ off a) :
    View.ld X' (Rect.unit off' size' inb') = View.ld X (Rect.unit off' size' inb') := by
  funext j'
  refine h.2 _ fun j e => ?_
  have e' : off a + 1 * (j a).val = off' a + 1 * (j' a).val := congrArg (fun i : s.Idx => (i a).val) e
  have h1 : (j a).val < size a := (j a).isLt
  have h2 : (j' a).val < size' a := (j' a).isLt
  omega

/-! ## The rectangles -/

abbrev rx (b r c : Nat) (hb : b < 4) (hr : r < 4) (hc : c < 40) : Rect S4x128x5120 :=
  Rect.unit (s := S4x128x5120) ![b, 32 * r, 128 * c] S1x32x128.size (inb_x b r c hb hr hc)
abbrev rg (c : Nat) (hc : c < 40) : Rect S1x5120 := Rect.unit (s := S1x5120) ![0, 128 * c] S1x128.size (inb_g c hc)
abbrev rp (c : Nat) (hc : c < 40) : Rect S32x5120 := Rect.unit (s := S32x5120) ![0, 128 * c] S32x128.size (inb_p c hc)
abbrev rxs (n : Nat) (hn : n < 16) : Rect S512x128 := Rect.unit (s := S512x128) ![32 * n, 0] S32x128.size (inb_xs n hn)

/-! ## What a block computes -/

section

variable (X : Vec F S4x128x5120 .bf16) (G : Vec F S1x5120 .f32)

/-- The sums of squares per lane over the first `k` lane blocks. -/
def sqA (b r : Nat) (hb : b < 4) (hr : r < 4) : (k : Nat) → k ≤ 40 → FVec F S32x128 .f32
  | 0, _ => broadcast S32x128 (Scalar.ofBits .f32 0x00000000#32)
  | k + 1, h => addf (sqA b r hb hr k (by omega))
      (mulf (xOf (View.ld X (rx b r k hb hr (by omega)))) (xOf (View.ld X (rx b r k hb hr (by omega)))))

/-- The weighted activations of lane block `c`. -/
def pA (b r : Nat) (hb : b < 4) (hr : r < 4) (c : Nat) (hc : c < 40) : FVec F S32x128 .f32 :=
  pOf (View.ld X (rx b r c hb hr hc)) (View.ld G (rg c hc))

/-- The largest magnitudes per lane over the first `k` lane blocks. -/
def amA (b r : Nat) (hb : b < 4) (hr : r < 4) : (k : Nat) → k ≤ 40 → FVec F S32x128 .f32
  | 0, _ => broadcast S32x128 (Scalar.ofBits .f32 0x00000000#32)
  | k + 1, h => maximumf (amA b r hb hr k (by omega)) (absf (pA X G b r hb hr k (by omega)))

/-- The row scales block `n` keeps. -/
def xsA (n : Nat) (hn : n < 16) : FVec F S32x128 .f32 :=
  shapeCast S32x128 (broadcastTo S32x128 (shapeCast S32x1 (recip (invRow
    (sqA X (n / 4) (n % 4) (by omega) (by omega) 40 le_rfl) (amA X G (n / 4) (n % 4) (by omega) (by omega) 40 le_rfl)))
    shapeCasts_S32x1_S32x1) broadcasts_S32x1_S32x128) shapeCasts_S32x128_S32x128

/-- The row multipliers of block `n`. -/
def multA (n : Nat) (hn : n < 16) : FVec F S32x1 .f32 :=
  mulf (rsOf (sqA X (n / 4) (n % 4) (by omega) (by omega) 40 le_rfl)) (invRow
    (sqA X (n / 4) (n % 4) (by omega) (by omega) 40 le_rfl) (amA X G (n / 4) (n % 4) (by omega) (by omega) 40 le_rfl))

/-- The codes of lane block `c` of block `n`. -/
def codesA (n : Nat) (hn : n < 16) (c : Nat) (hc : c < 40) : FVec F S1x32x128 .fp8e4m3 :=
  shapeCast S1x32x128 (clip (mulf (pA X G (n / 4) (n % 4) (by omega) (by omega) c hc)
    (broadcastTo S32x128 (multA X G n hn) broadcasts_S32x1_S32x128))) shapeCasts_S32x128_S1x32x128

end

/-! ## What it leaves -/

section

variable (c : Dev nD) (E : Set ℕ) (X : Vec F S4x128x5120 .bf16) (G : Vec F S1x5120 .f32)
  (arg1 : Memref sig .tc .vmem S4x128x5120 .bf16) (arg2 : Memref sig .tc .vmem S1x5120 .f32)
  (arg11 : Memref sig .tc .vmem S4x128x5120 .fp8e4m3) (harg11 : arg11.IsWhole)
  (arg13 : Memref sig .tc .vmem S512x128 .f32) (arg15 : Memref sig .tc .vmem S32x5120 .f32)

/-- The first `k` lane blocks of the scratch are the weighted activations. -/
def PInv (b r : Nat) (hb : b < 4) (hr : r < 4) (k : Nat) (P : Vec F S32x5120 .f32) : Prop :=
  ∀ j (hj : j < 40), j < k → View.ld P (rp j hj) = pA X G b r hb hr j hj

theorem wp_pass1 (Q : PUnit → sProp 𝕄) (b r : Nat) (hb : b < 4) (hr : r < 4) (Kp : FVec F S32x128 .f32 → FVec F S32x128 .f32 → Pg F) :
    ∀ (n : Nat) (hn : n ≤ 40) (k : Nat) (hk : n + k = 40) (P : Vec F S32x5120 .f32), PInv X G b r hb hr k P →
    iprop(owns (c : Thread nD τ) arg1 fullShare X ∗ owns (c : Thread nD τ) arg2 fullShare G
      ∗ owns (c : Thread nD τ) arg15 fullShare P
      ∗ (∀ P', ⌜PInv X G b r hb hr 40 P'⌝ -∗ owns (c : Thread nD τ) arg1 fullShare X
        -∗ owns (c : Thread nD τ) arg2 fullShare G -∗ owns (c : Thread nD τ) arg15 fullShare P'
        -∗ Wp c E (Kp (sqA X b r hb hr 40 le_rfl) (amA X G b r hb hr 40 le_rfl)) Q))
      ⊢ Wp c E (pass1 arg1 arg2 arg15 b r hb hr n hn (sqA X b r hb hr k (by omega)) (amA X G b r hb hr k (by omega)) Kp) Q
  | 0, _, k, hk, P, hP => by
    obtain rfl : k = 40 := by omega
    iintro ⟨H1, H2, H15, Hk⟩
    iapply Hk $$ %P %hP H1 H2 H15
  | n + 1, hn, k, hk, P, hP => by
    obtain rfl : k = 39 - n := by omega
    iintro ⟨H1, H2, H15, Hk⟩
    unfold pass1
    iapply (wp_ld c E Q) $$ H1
    iintro H1
    iapply (wp_ld c E Q) $$ H2
    iintro H2
    iapply (wp_ld c E Q) $$ H15
    iintro H15
    iapply (wp_st c E Q) $$ H15
    iintro %P' %hP' H15
    iapply (wp_pass1 Q b r hb hr Kp n (by omega) (39 - n + 1) (by omega) P' (by
      intro j hj hjk
      by_cases e : j = 39 - n
      · subst e
        exact hP'.ld.trans (shapeCast_self _ _)
      · refine (hP'.ld_other (1 : Fin 2) ?_).trans (hP j hj (by omega))
        show 128 * (39 - n) + 128 ≤ 128 * j ∨ 128 * j + 128 ≤ 128 * (39 - n)
        omega))
    isplitl [H1]; · iexact H1
    isplitl [H2]; · iexact H2
    isplitl [H15]; · iexact H15
    iexact Hk

/-- The codes of the first `n` blocks, and the first `k` lane blocks of block `n`. -/
def CInv (n k : Nat) (C : Vec F S4x128x5120 .fp8e4m3) : Prop :=
  ∀ n' (hn' : n' < 16) j (hj : j < 40), (n' < n ∨ n' = n ∧ j < k) →
    View.ld C (rx (n' / 4) (n' % 4) j (by omega) (by omega) hj) = codesA X G n' hn' j hj

theorem wp_pass2 (Q : PUnit → sProp 𝕄) (m : Nat) (hm : m < 16) (Kp : Pg F) (P : Vec F S32x5120 .f32)
    (hP : PInv X G (m / 4) (m % 4) (by omega) (by omega) 40 P) :
    ∀ (n : Nat) (hn : n ≤ 40) (k : Nat) (hk : n + k = 40) (C : Vec F S4x128x5120 .fp8e4m3), CInv X G m k C →
    iprop(owns (c : Thread nD τ) arg15 fullShare P ∗ owns (c : Thread nD τ) arg11 fullShare C
      ∗ (∀ C', ⌜CInv X G m 40 C'⌝ -∗ owns (c : Thread nD τ) arg15 fullShare P
        -∗ owns (c : Thread nD τ) arg11 fullShare C' -∗ Wp c E Kp Q))
      ⊢ Wp c E (pass2 arg11 harg11 arg15 (m / 4) (m % 4) (by omega) (by omega) (multA X G m hm) n hn Kp) Q
  | 0, _, k, hk, C, hC => by
    obtain rfl : k = 40 := by omega
    iintro ⟨H15, H11, Hk⟩
    iapply Hk $$ %C %hC H15 H11
  | n + 1, hn, k, hk, C, hC => by
    obtain rfl : k = 39 - n := by omega
    iintro ⟨H15, H11, Hk⟩
    unfold pass2
    iapply (wp_ld c E Q) $$ H15
    iintro H15
    iapply (wp_ld c E Q) $$ H11
    iintro H11
    iapply (wp_st c E Q) $$ H11
    iintro %C' %hC' H11
    iapply (wp_pass2 Q m hm Kp P hP n _ (39 - n + 1) (by omega) C' (by
      intro n' hn' j hj h
      by_cases e : n' = m ∧ j = 39 - n
      · obtain ⟨rfl, rfl⟩ := e
        refine hC'.ld.trans ?_
        unfold codesA
        rw [hP (39 - n) (by omega) (by omega)]
      · refine Eq.trans ?_ (hC n' hn' j hj (by omega))
        by_cases e0 : n' / 4 = m / 4
        · by_cases e1 : n' % 4 = m % 4
          · refine hC'.ld_other (2 : Fin 3) ?_
            show 128 * (39 - n) + 128 ≤ 128 * j ∨ 128 * j + 128 ≤ 128 * (39 - n)
            omega
          · refine hC'.ld_other (1 : Fin 3) ?_
            show 32 * (m % 4) + 32 ≤ 32 * (n' % 4) ∨ 32 * (n' % 4) + 32 ≤ 32 * (m % 4)
            omega
        · refine hC'.ld_other (0 : Fin 3) ?_
          show m / 4 + 1 ≤ n' / 4 ∨ n' / 4 + 1 ≤ m / 4
          omega))
    isplitl [H15]; · iexact H15
    isplitl [H11]; · iexact H11
    iexact Hk

/-- The row scales of the first `n` blocks. -/
def SInv (n : Nat) (S : Vec F S512x128 .f32) : Prop :=
  ∀ n' (hn' : n' < 16), n' < n → View.ld S (rxs n' hn') = xsA X G n' hn'

theorem wp_block (Q : PUnit → sProp 𝕄) (m : Nat) (hm : m < 16) (Kp : Pg F) (P : Vec F S32x5120 .f32) (C : Vec F S4x128x5120 .fp8e4m3)
    (S : Vec F S512x128 .f32) (hC : CInv X G m 0 C) (hS : SInv X G m S) :
    iprop(owns (c : Thread nD τ) arg1 fullShare X ∗ owns (c : Thread nD τ) arg2 fullShare G
      ∗ owns (c : Thread nD τ) arg15 fullShare P ∗ owns (c : Thread nD τ) arg11 fullShare C
      ∗ owns (c : Thread nD τ) arg13 fullShare S
      ∗ (∀ P' C' S', ⌜CInv X G (m + 1) 0 C'⌝ -∗ ⌜SInv X G (m + 1) S'⌝ -∗ owns (c : Thread nD τ) arg1 fullShare X
        -∗ owns (c : Thread nD τ) arg2 fullShare G -∗ owns (c : Thread nD τ) arg15 fullShare P'
        -∗ owns (c : Thread nD τ) arg11 fullShare C' -∗ owns (c : Thread nD τ) arg13 fullShare S' -∗ Wp c E Kp Q))
      ⊢ Wp c E (block arg1 arg2 arg11 harg11 arg13 arg15 m hm Kp) Q := by
  iintro ⟨H1, H2, H15, H11, H13, Hk⟩
  unfold block
  iapply (wp_pass1 c E X G arg1 arg2 arg15 Q (m / 4) (m % 4) (by omega) (by omega) _ 40 (by omega) 0 rfl P
    (fun j hj h => absurd h (by omega)))
  isplitl [H1]; · iexact H1
  isplitl [H2]; · iexact H2
  isplitl [H15]; · iexact H15
  iintro %P' %hP' H1 H2 H15
  unfold middle
  iapply (wp_ld c E Q) $$ H13
  iintro H13
  iapply (wp_st c E Q) $$ H13
  iintro %S' %hS' H13
  iapply (wp_pass2 c E X G arg11 harg11 arg15 Q m hm Kp P' hP' 40 (by omega) 0 rfl C hC)
  isplitl [H15]; · iexact H15
  isplitl [H11]; · iexact H11
  iintro %C' %hC' H15 H11
  have hC2 : CInv X G (m + 1) 0 C' := fun n' hn' j hj h => hC' n' hn' j hj (by omega)
  have hS2 : SInv X G (m + 1) S' := by
    intro n' hn' h
    by_cases e : n' = m
    · subst e; exact hS'.ld
    · refine (hS'.ld_other (0 : Fin 2) ?_).trans (hS n' hn' (by omega))
      show 32 * m + 32 ≤ 32 * n' ∨ 32 * n' + 32 ≤ 32 * m
      omega
  iapply Hk $$ %P' %C' %S' %hC2 %hS2 H1 H2 H15 H11 H13

theorem wp_blocks (Q : PUnit → sProp 𝕄) (Kp : Pg F) : ∀ (n : Nat) (hn : n ≤ 16) (k : Nat) (hk : n + k = 16) (P : Vec F S32x5120 .f32)
    (C : Vec F S4x128x5120 .fp8e4m3) (S : Vec F S512x128 .f32), CInv X G k 0 C → SInv X G k S →
    iprop(owns (c : Thread nD τ) arg1 fullShare X ∗ owns (c : Thread nD τ) arg2 fullShare G
      ∗ owns (c : Thread nD τ) arg15 fullShare P ∗ owns (c : Thread nD τ) arg11 fullShare C
      ∗ owns (c : Thread nD τ) arg13 fullShare S
      ∗ (∀ P' C' S', ⌜CInv X G 16 0 C'⌝ -∗ ⌜SInv X G 16 S'⌝ -∗ owns (c : Thread nD τ) arg1 fullShare X
        -∗ owns (c : Thread nD τ) arg2 fullShare G -∗ owns (c : Thread nD τ) arg15 fullShare P'
        -∗ owns (c : Thread nD τ) arg11 fullShare C' -∗ owns (c : Thread nD τ) arg13 fullShare S' -∗ Wp c E Kp Q))
      ⊢ Wp c E (blocks arg1 arg2 arg11 harg11 arg13 arg15 n hn Kp) Q
  | 0, _, k, hk, P, C, S, hC, hS => by
    obtain rfl : k = 16 := by omega
    iintro ⟨H1, H2, H15, H11, H13, Hk⟩
    iapply Hk $$ %P %C %S %hC %hS H1 H2 H15 H11 H13
  | n + 1, hn, k, hk, P, C, S, hC, hS => by
    obtain rfl : k = 15 - n := by omega
    iintro ⟨H1, H2, H15, H11, H13, Hk⟩
    unfold blocks
    iapply (wp_block c E X G arg1 arg2 arg11 harg11 arg13 arg15 Q (15 - n) _ _ P C S hC hS)
    isplitl [H1]; · iexact H1
    isplitl [H2]; · iexact H2
    isplitl [H15]; · iexact H15
    isplitl [H11]; · iexact H11
    isplitl [H13]; · iexact H13
    iintro %P' %C' %S' %hC' %hS' H1 H2 H15 H11 H13
    iapply (wp_blocks Q Kp n _ (15 - n + 1) (by omega) P' C' S' hC' hS')
    isplitl [H1]; · iexact H1
    isplitl [H2]; · iexact H2
    isplitl [H15]; · iexact H15
    isplitl [H11]; · iexact H11
    isplitl [H13]; · iexact H13
    iexact Hk

end

end Cert.KernelIdeal.Body
-- ==== Proof.Tail.lean ====
/- What follows the blocks: the fifteen heads, their inverse scales, and the scales transposed. -/
module

public import proofs.«01_k».proof.Proof.Pass

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## The rectangles -/

abbrev rw2 (h : Nat) (hh : h < 7) : Rect S5120x1920 :=
  Rect.unit (s := S5120x1920) ![0, 256 * h] S5120x256.size (inb_w h hh)
abbrev rws (h : Nat) (hh : h < 15) : Rect S1x1920 := Rect.unit (s := S1x1920) ![0, 128 * h] S1x128.size (inb_ws h hh)
abbrev rinv (h : Nat) (hh : h < 16) : Rect S512x128 := Rect.unit (s := S512x128) ![0, h] S512x1.size (inb_inv h hh)
abbrev rinvT (b : Nat) (hb : b < 4) : Rect S512x128 :=
  Rect.unit (s := S512x128) ![128 * b, 0] S128x128.size (inb_invT b hb)
abbrev ro (j : Nat) (hj : j < 5) : Rect S4x5x128x128 :=
  Rect.unit (s := S4x5x128x128) ![0, j, 0, 0] S4x1x128x128.size (inb_o j hj)
abbrev rsc (b : Nat) (hb : b < 4) : Rect S5x4x128 := Rect.unit (s := S5x4x128) ![0, b, 0] S5x1x128.size (inb_s b hb)
abbrev rxsc (b : Nat) (hb : b < 4) : Rect S4x128 := Rect.unit (s := S4x128) ![b, 0] S1x128.size (inb_xsc b hb)

/-! ## What the heads compute -/

section

variable (C : Vec F S4x128x5120 .fp8e4m3) (S : Vec F S512x128 .f32) (W : Vec F S5120x1920 .fp8e4m3)
  (WS : Vec F S1x1920 .f32)

theorem accOf_congr (x : FVec F S512x5120 .fp8e4m3) (k h : Nat) (hk : k < 7) (hh : h < 7) (e : k = h) :
    accOf x (View.ld W (rw2 k hk)) = accOf x (View.ld W (rw2 h hh)) := by
  subst e; rfl

/-- The product of the codes with the weights of head `h`. -/
def accA (h : Nat) : FVec F S512x128 .f32 :=
  if e : h < 14 then
    if h % 2 = 0 then
      extractStridedSlice S512x128 ![0, 0] (accOf (rowsA C) (View.ld W (rw2 (h / 2) (by omega))))
        slices_S512x256_o0_0_S512x128
    else
      extractStridedSlice S512x128 ![0, 128] (accOf (rowsA C) (View.ld W (rw2 (h / 2) (by omega))))
        slices_S512x256_o0_128_S512x128
  else matmul dot_S512x5120_S5120x128_S512x128_1_0_0_1_n_n none (rowsA C)
    (View.ld W (Rect.unit (s := S5120x1920) ![0, 1792] S5120x128.size inb_S5120x1920_S5120x128_0_1792))
    (constant S512x128 .f32 0x00000000#32)

theorem accA_even (h : Nat) (hh : h < 7) : accA C W (2 * h) =
    extractStridedSlice S512x128 ![0, 0] (accOf (rowsA C) (View.ld W (rw2 h hh))) slices_S512x256_o0_0_S512x128 := by
  unfold accA
  rw [dif_pos (by omega), if_pos (by omega)]
  rw [accOf_congr W (rowsA C) (2 * h / 2) h (by omega) hh (by omega)]

theorem accA_odd (h : Nat) (hh : h < 7) : accA C W (2 * h + 1) =
    extractStridedSlice S512x128 ![0, 128] (accOf (rowsA C) (View.ld W (rw2 h hh)))
      slices_S512x256_o0_128_S512x128 := by
  unfold accA
  rw [dif_pos (by omega), if_neg (by omega)]
  rw [accOf_congr W (rowsA C) ((2 * h + 1) / 2) h (by omega) hh (by omega)]

theorem accA_last : accA C W 14 = matmul dot_S512x5120_S5120x128_S512x128_1_0_0_1_n_n none (rowsA C)
    (View.ld W (Rect.unit (s := S5120x1920) ![0, 1792] S5120x128.size inb_S5120x1920_S5120x128_0_1792))
    (constant S512x128 .f32 0x00000000#32) := by
  unfold accA
  rw [dif_neg (by omega)]

/-- The rows of head `h`. -/
def yA (h : Nat) (hh : h < 15) : FVec F S512x128 .f32 := yOf (accA C W h) S (View.ld WS (rws h hh))

/-- Column `h` of the inverse scales. -/
def colA (h : Nat) : FVec F S512x1 .f32 :=
  if e : h < 15 then shapeCast S512x1 (invHead (yA C S W WS h e)) shapeCasts_S512x1_S512x1
  else shapeCast S512x1 (recip (extractStridedSlice S512x1 ![0, 0] S slices_S512x128_o0_0_S512x1))
    shapeCasts_S512x1_S512x1

/-- The codes of head `h`. -/
def partA (h : Nat) (hh : h < 15) : FVec F S4x1x128x128 .fp8e4m3 :=
  shapeCast S4x1x128x128 (shapeCast S4x128x128 (clip (mulf (yA C S W WS h hh)
    (broadcastTo S512x128 (invHead (yA C S W WS h hh)) broadcasts_S512x1_S512x128))) shapeCasts_S512x128_S4x128x128)
    shapeCasts_S4x128x128_S4x1x128x128

/-- The first `n` columns of the inverse scales. -/
def HInv (n : Nat) (V : Vec F S512x128 .f32) : Prop :=
  ∀ h (hh : h < 16), h < n → View.ld V (rinv h hh) = colA C S W WS h

/-- The first `j` heads of the output whose first head is `B`. -/
def OInv (B : Nat) (hB : B ≤ 10) (n : Nat) (O : Vec F S4x5x128x128 .fp8e4m3) : Prop :=
  ∀ j (hj : j < 5), j < n → View.ld O (ro j hj) = partA C S W WS (B + j) (by omega)

end

/-- The scales in the first `n` batches of an output, from row `o` of the transposed inverse scales on. -/
def TInv (V : Vec F S512x128 .f32) (o : Nat) (ho : S128x128.Slices ![o, 0] S5x128) (n : Nat) (T : Vec F S5x4x128 .f32) : Prop :=
  ∀ b (hb : b < 4), b < n → View.ld T (rsc b hb) =
    shapeCast S5x1x128 (extractStridedSlice S5x128 ![o, 0] (tOf (View.ld V (rinvT b hb))) ho) shapeCasts_S5x128_S5x1x128

/-- The row scales in the first `n` batches. -/
def XInv (V : Vec F S512x128 .f32) (n : Nat) (T : Vec F S4x128 .f32) : Prop :=
  ∀ b (hb : b < 4), b < n → View.ld T (rxsc b hb) =
    extractStridedSlice S1x128 ![15, 0] (tOf (View.ld V (rinvT b hb))) slices_S128x128_o15_0_S1x128

section

variable (c : Dev nD) (E : Set ℕ)
  (C : Vec F S4x128x5120 .fp8e4m3) (S : Vec F S512x128 .f32) (W : Vec F S5120x1920 .fp8e4m3) (WS : Vec F S1x1920 .f32)
  (arg3 : Memref sig .tc .vmem S5120x1920 .fp8e4m3) (arg4 : Memref sig .tc .vmem S1x1920 .f32)
  (arg5 arg6 arg7 : Memref sig .tc .vmem S4x5x128x128 .fp8e4m3)
  (harg5 : arg5.IsWhole) (harg6 : arg6.IsWhole) (harg7 : arg7.IsWhole)
  (arg8 arg9 arg10 : Memref sig .tc .vmem S5x4x128 .f32)
  (arg11 : Memref sig .tc .vmem S4x128x5120 .fp8e4m3) (arg12 : Memref sig .tc .vmem S4x128 .f32)
  (arg13 : Memref sig .tc .vmem S512x128 .f32) (arg14 : Memref sig .tc .vmem S512x128 .f32)

theorem wp_head (Q : PUnit → sProp 𝕄) (o : Memref sig .tc .vmem S4x5x128x128 .fp8e4m3) (ho : o.IsWhole) (B h j : Nat)
    (hB : B ≤ 10) (hh : h < 15) (hj : j < 5) (e : h = B + j) (acc : FVec F S512x128 .f32) (hacc : acc = accA C W h)
    (Kp : Pg F) (V : Vec F S512x128 .f32) (O : Vec F S4x5x128x128 .fp8e4m3)
    (hV : HInv C S W WS h V) (hO : OInv C S W WS B hB j O) :
    iprop(owns (c : Thread nD τ) arg4 fullShare WS ∗ owns (c : Thread nD τ) arg14 fullShare V
      ∗ owns (c : Thread nD τ) o fullShare O
      ∗ (∀ V' O', ⌜HInv C S W WS (h + 1) V'⌝ -∗ ⌜OInv C S W WS B hB (j + 1) O'⌝
        -∗ owns (c : Thread nD τ) arg4 fullShare WS -∗ owns (c : Thread nD τ) arg14 fullShare V'
        -∗ owns (c : Thread nD τ) o fullShare O' -∗ Wp c E Kp Q))
      ⊢ Wp c E (head arg4 arg14 o ho h j hh hj acc S Kp) Q := by
  subst hacc
  iintro ⟨H4, H14, H5, Hk⟩
  unfold head
  iapply (wp_ld c E Q) $$ H4
  iintro H4
  iapply (wp_ld c E Q) $$ H14
  iintro H14
  iapply (wp_st c E Q) $$ H14
  iintro %V' %hV' H14
  iapply (wp_ld c E Q) $$ H5
  iintro H5
  iapply (wp_st c E Q) $$ H5
  iintro %O' %hO' H5
  have hV2 : HInv C S W WS (h + 1) V' := by
    intro h' hh' l
    by_cases e' : h' = h
    · subst e'
      refine hV'.ld.trans ?_
      unfold colA
      rw [dif_pos hh]
      rfl
    · refine (hV'.ld_other (1 : Fin 2) ?_).trans (hV h' hh' (by omega))
      show h + 1 ≤ h' ∨ h' + 1 ≤ h
      omega
  have hO2 : OInv C S W WS B hB (j + 1) O' := by
    intro j' hj' l
    by_cases e' : j' = j
    · subst e'
      subst e
      exact hO'.ld
    · refine (hO'.ld_other (1 : Fin 4) ?_).trans (hO j' hj' (by omega))
      show j + 1 ≤ j' ∨ j' + 1 ≤ j
      omega
  iapply Hk $$ %V' %O' %hV2 %hO2 H4 H14 H5

theorem wp_lastColumn (Q : PUnit → sProp 𝕄) (Kp : Pg F) (V : Vec F S512x128 .f32) (hV : HInv C S W WS 15 V) :
    iprop(owns (c : Thread nD τ) arg14 fullShare V
      ∗ (∀ V', ⌜HInv C S W WS 16 V'⌝ -∗ owns (c : Thread nD τ) arg14 fullShare V' -∗ Wp c E Kp Q))
      ⊢ Wp c E (lastColumn arg14 S Kp) Q := by
  iintro ⟨H14, Hk⟩
  unfold lastColumn
  iapply (wp_ld c E Q) $$ H14
  iintro H14
  iapply (wp_st c E Q) $$ H14
  iintro %V' %hV' H14
  have hV2 : HInv C S W WS 16 V' := by
    intro h' hh' l
    by_cases e' : h' = 15
    · subst e'
      refine hV'.ld.trans ?_
      unfold colA
      rw [dif_neg (by omega)]
    · refine (hV'.ld_other (1 : Fin 2) ?_).trans (hV h' hh' (by omega))
      show 15 + 1 ≤ h' ∨ h' + 1 ≤ 15
      omega
  iapply Hk $$ %V' %hV2 H14

theorem wp_scaleOut (Q : PUnit → sProp 𝕄) (o : Memref sig .tc .vmem S5x4x128 .f32) (b : Nat) (hb : b < 4) (k : Nat)
    (hk : S128x128.Slices ![k, 0] S5x128) (V : Vec F S512x128 .f32) (Kp : Pg F) (T : Vec F S5x4x128 .f32)
    (hT : TInv V k hk b T) :
    iprop(owns (c : Thread nD τ) o fullShare T
      ∗ (∀ T', ⌜TInv V k hk (b + 1) T'⌝ -∗ owns (c : Thread nD τ) o fullShare T' -∗ Wp c E Kp Q))
      ⊢ Wp c E (scaleOut o b hb (extractStridedSlice S5x128 ![k, 0] (tOf (View.ld V (rinvT b hb))) hk) Kp) Q := by
  iintro ⟨H, Hk⟩
  unfold scaleOut
  iapply (wp_ld c E Q) $$ H
  iintro H
  iapply (wp_st c E Q) $$ H
  iintro %T' %hT' H
  have hT2 : TInv V k hk (b + 1) T' := by
    intro b' hb' l
    by_cases e' : b' = b
    · subst e'
      exact hT'.ld
    · refine (hT'.ld_other (1 : Fin 3) ?_).trans (hT b' hb' (by omega))
      show b + 1 ≤ b' ∨ b' + 1 ≤ b
      omega
  iapply Hk $$ %T' %hT2 H

theorem wp_batchScales (Q : PUnit → sProp 𝕄) (b : Nat) (hb : b < 4) (V : Vec F S512x128 .f32) (Kp : Pg F)
    (T8 T9 T10 : Vec F S5x4x128 .f32) (T12 : Vec F S4x128 .f32)
    (h8 : TInv V 0 slices_S128x128_o0_0_S5x128 b T8) (h9 : TInv V 5 slices_S128x128_o5_0_S5x128 b T9)
    (h10 : TInv V 10 slices_S128x128_o10_0_S5x128 b T10) (h12 : XInv V b T12) :
    iprop(owns (c : Thread nD τ) arg14 fullShare V ∗ owns (c : Thread nD τ) arg8 fullShare T8
      ∗ owns (c : Thread nD τ) arg9 fullShare T9 ∗ owns (c : Thread nD τ) arg10 fullShare T10
      ∗ owns (c : Thread nD τ) arg12 fullShare T12
      ∗ (∀ T8' T9' T10' T12', ⌜TInv V 0 slices_S128x128_o0_0_S5x128 (b + 1) T8'⌝
        -∗ ⌜TInv V 5 slices_S128x128_o5_0_S5x128 (b + 1) T9'⌝ -∗ ⌜TInv V 10 slices_S128x128_o10_0_S5x128 (b + 1) T10'⌝
        -∗ ⌜XInv V (b + 1) T12'⌝ -∗ owns (c : Thread nD τ) arg14 fullShare V
        -∗ owns (c : Thread nD τ) arg8 fullShare T8' -∗ owns (c : Thread nD τ) arg9 fullShare T9'
        -∗ owns (c : Thread nD τ) arg10 fullShare T10' -∗ owns (c : Thread nD τ) arg12 fullShare T12' -∗ Wp c E Kp Q))
      ⊢ Wp c E (batchScales arg8 arg9 arg10 arg12 arg14 b hb Kp) Q := by
  iintro ⟨H14, H8, H9, H10, H12, Hk⟩
  unfold batchScales
  iapply (wp_ld c E Q) $$ H14
  iintro H14
  iapply (wp_scaleOut c E Q arg8 b hb 0 slices_S128x128_o0_0_S5x128 V _ T8 h8)
  isplitl [H8]; · iexact H8
  iintro %T8' %h8' H8
  iapply (wp_scaleOut c E Q arg9 b hb 5 slices_S128x128_o5_0_S5x128 V _ T9 h9)
  isplitl [H9]; · iexact H9
  iintro %T9' %h9' H9
  iapply (wp_scaleOut c E Q arg10 b hb 10 slices_S128x128_o10_0_S5x128 V _ T10 h10)
  isplitl [H10]; · iexact H10
  iintro %T10' %h10' H10
  iapply (wp_ld c E Q) $$ H12
  iintro H12
  iapply (wp_st c E Q) $$ H12
  iintro %T12' %hT' H12
  have h12' : XInv V (b + 1) T12' := by
    intro b' hb' l
    by_cases e' : b' = b
    · subst e'
      exact hT'.ld
    · refine (hT'.ld_other (0 : Fin 2) ?_).trans (h12 b' hb' (by omega))
      show b + 1 ≤ b' ∨ b' + 1 ≤ b
      omega
  iapply Hk $$ %T8' %T9' %T10' %T12' %h8' %h9' %h10' %h12' H14 H8 H9 H10 H12

theorem wp_tail (Q : PUnit → sProp 𝕄) (V : Vec F S512x128 .f32) (O5 O6 O7 : Vec F S4x5x128x128 .fp8e4m3)
    (T8 T9 T10 : Vec F S5x4x128 .f32) (T12 : Vec F S4x128 .f32) :
    iprop(owns (c : Thread nD τ) arg3 fullShare W ∗ owns (c : Thread nD τ) arg4 fullShare WS
      ∗ owns (c : Thread nD τ) arg5 fullShare O5 ∗ owns (c : Thread nD τ) arg6 fullShare O6
      ∗ owns (c : Thread nD τ) arg7 fullShare O7 ∗ owns (c : Thread nD τ) arg8 fullShare T8
      ∗ owns (c : Thread nD τ) arg9 fullShare T9 ∗ owns (c : Thread nD τ) arg10 fullShare T10
      ∗ owns (c : Thread nD τ) arg11 fullShare C ∗ owns (c : Thread nD τ) arg12 fullShare T12
      ∗ owns (c : Thread nD τ) arg13 fullShare S ∗ owns (c : Thread nD τ) arg14 fullShare V
      ∗ (∀ V' O5' O6' O7' T8' T9' T10' T12', ⌜HInv C S W WS 16 V' ∧ OInv C S W WS 0 (by omega) 5 O5'
          ∧ OInv C S W WS 5 (by omega) 5 O6' ∧ OInv C S W WS 10 (by omega) 5 O7'
          ∧ TInv V' 0 slices_S128x128_o0_0_S5x128 4 T8' ∧ TInv V' 5 slices_S128x128_o5_0_S5x128 4 T9'
          ∧ TInv V' 10 slices_S128x128_o10_0_S5x128 4 T10' ∧ XInv V' 4 T12'⌝
        -∗ owns (c : Thread nD τ) arg3 fullShare W -∗ owns (c : Thread nD τ) arg4 fullShare WS
        -∗ owns (c : Thread nD τ) arg5 fullShare O5' -∗ owns (c : Thread nD τ) arg6 fullShare O6'
        -∗ owns (c : Thread nD τ) arg7 fullShare O7' -∗ owns (c : Thread nD τ) arg8 fullShare T8'
        -∗ owns (c : Thread nD τ) arg9 fullShare T9' -∗ owns (c : Thread nD τ) arg10 fullShare T10'
        -∗ owns (c : Thread nD τ) arg11 fullShare C -∗ owns (c : Thread nD τ) arg12 fullShare T12'
        -∗ owns (c : Thread nD τ) arg13 fullShare S -∗ owns (c : Thread nD τ) arg14 fullShare V'
        -∗ Q ⟨⟩))
      ⊢ Wp c E (tail arg3 arg4 arg5 arg6 arg7 harg5 harg6 harg7 arg8 arg9 arg10 arg11 arg12 arg13 arg14) Q := by
  iintro ⟨H3, H4, H5, H6, H7, H8, H9, H10, H11, H12, H13, H14, Hk⟩
  unfold tail pair lastHead
  iapply (wp_ld c E Q) $$ H11
  iintro H11
  iapply (wp_ld c E Q) $$ H13
  iintro H13
  rw [View.ld_unit_zero (by funext a; fin_cases a <;> rfl) _ C, View.ld_unit_zero (by funext a; fin_cases a <;> rfl) _ S]
  have V0 : HInv C S W WS 0 V := fun _ _ h => absurd h (by omega)
  have h50 : OInv C S W WS 0 (by omega) 0 O5 := fun _ _ h => absurd h (by omega)
  have h60 : OInv C S W WS 5 (by omega) 0 O6 := fun _ _ h => absurd h (by omega)
  have h70 : OInv C S W WS 10 (by omega) 0 O7 := fun _ _ h => absurd h (by omega)
  iapply (wp_ld c E Q) $$ H3
  iintro H3
  iapply (wp_head c E C S W WS arg4 arg14 Q arg5 harg5 0 0 0 (by omega) _ _ rfl _
    (accA_even C W 0 (by omega)).symm _ _ _ V0 h50)
  isplitl [H4]; · iexact H4
  isplitl [H14]; · iexact H14
  isplitl [H5]; · iexact H5
  iintro %V %O5 %V1 %h51 H4 H14 H5
  iapply (wp_head c E C S W WS arg4 arg14 Q arg5 harg5 0 1 1 (by omega) _ _ rfl _
    (accA_odd C W 0 (by omega)).symm _ _ _ V1 h51)
  isplitl [H4]; · iexact H4
  isplitl [H14]; · iexact H14
  isplitl [H5]; · iexact H5
  iintro %V %O5 %V2 %h52 H4 H14 H5
  iapply (wp_ld c E Q) $$ H3
  iintro H3
  iapply (wp_head c E C S W WS arg4 arg14 Q arg5 harg5 0 2 2 (by omega) _ _ rfl _
    (accA_even C W 1 (by omega)).symm _ _ _ V2 h52)
  isplitl [H4]; · iexact H4
  isplitl [H14]; · iexact H14
  isplitl [H5]; · iexact H5
  iintro %V %O5 %V3 %h53 H4 H14 H5
  iapply (wp_head c E C S W WS arg4 arg14 Q arg5 harg5 0 3 3 (by omega) _ _ rfl _
    (accA_odd C W 1 (by omega)).symm _ _ _ V3 h53)
  isplitl [H4]; · iexact H4
  isplitl [H14]; · iexact H14
  isplitl [H5]; · iexact H5
  iintro %V %O5 %V4 %h54 H4 H14 H5
  iapply (wp_ld c E Q) $$ H3
  iintro H3
  iapply (wp_head c E C S W WS arg4 arg14 Q arg5 harg5 0 4 4 (by omega) _ _ rfl _
    (accA_even C W 2 (by omega)).symm _ _ _ V4 h54)
  isplitl [H4]; · iexact H4
  isplitl [H14]; · iexact H14
  isplitl [H5]; · iexact H5
  iintro %V %O5 %V5 %h55 H4 H14 H5
  iapply (wp_head c E C S W WS arg4 arg14 Q arg6 harg6 5 5 0 (by omega) _ _ rfl _
    (accA_odd C W 2 (by omega)).symm _ _ _ V5 h60)
  isplitl [H4]; · iexact H4
  isplitl [H14]; · iexact H14
  isplitl [H6]; · iexact H6
  iintro %V %O6 %V6 %h61 H4 H14 H6
  iapply (wp_ld c E Q) $$ H3
  iintro H3
  iapply (wp_head c E C S W WS arg4 arg14 Q arg6 harg6 5 6 1 (by omega) _ _ rfl _
    (accA_even C W 3 (by omega)).symm _ _ _ V6 h61)
  isplitl [H4]; · iexact H4
  isplitl [H14]; · iexact H14
  isplitl [H6]; · iexact H6
  iintro %V %O6 %V7 %h62 H4 H14 H6
  iapply (wp_head c E C S W WS arg4 arg14 Q arg6 harg6 5 7 2 (by omega) _ _ rfl _
    (accA_odd C W 3 (by omega)).symm _ _ _ V7 h62)
  isplitl [H4]; · iexact H4
  isplitl [H14]; · iexact H14
  isplitl [H6]; · iexact H6
  iintro %V %O6 %V8 %h63 H4 H14 H6
  iapply (wp_ld c E Q) $$ H3
  iintro H3
  iapply (wp_head c E C S W WS arg4 arg14 Q arg6 harg6 5 8 3 (by omega) _ _ rfl _
    (accA_even C W 4 (by omega)).symm _ _ _ V8 h63)
  isplitl [H4]; · iexact H4
  isplitl [H14]; · iexact H14
  isplitl [H6]; · iexact H6
  iintro %V %O6 %V9 %h64 H4 H14 H6
  iapply (wp_head c E C S W WS arg4 arg14 Q arg6 harg6 5 9 4 (by omega) _ _ rfl _
    (accA_odd C W 4 (by omega)).symm _ _ _ V9 h64)
  isplitl [H4]; · iexact H4
  isplitl [H14]; · iexact H14
  isplitl [H6]; · iexact H6
  iintro %V %O6 %V10 %h65 H4 H14 H6
  iapply (wp_ld c E Q) $$ H3
  iintro H3
  iapply (wp_head c E C S W WS arg4 arg14 Q arg7 harg7 10 10 0 (by omega) _ _ rfl _
    (accA_even C W 5 (by omega)).symm _ _ _ V10 h70)
  isplitl [H4]; · iexact H4
  isplitl [H14]; · iexact H14
  isplitl [H7]; · iexact H7
  iintro %V %O7 %V11 %h71 H4 H14 H7
  iapply (wp_head c E C S W WS arg4 arg14 Q arg7 harg7 10 11 1 (by omega) _ _ rfl _
    (accA_odd C W 5 (by omega)).symm _ _ _ V11 h71)
  isplitl [H4]; · iexact H4
  isplitl [H14]; · iexact H14
  isplitl [H7]; · iexact H7
  iintro %V %O7 %V12 %h72 H4 H14 H7
  iapply (wp_ld c E Q) $$ H3
  iintro H3
  iapply (wp_head c E C S W WS arg4 arg14 Q arg7 harg7 10 12 2 (by omega) _ _ rfl _
    (accA_even C W 6 (by omega)).symm _ _ _ V12 h72)
  isplitl [H4]; · iexact H4
  isplitl [H14]; · iexact H14
  isplitl [H7]; · iexact H7
  iintro %V %O7 %V13 %h73 H4 H14 H7
  iapply (wp_head c E C S W WS arg4 arg14 Q arg7 harg7 10 13 3 (by omega) _ _ rfl _
    (accA_odd C W 6 (by omega)).symm _ _ _ V13 h73)
  isplitl [H4]; · iexact H4
  isplitl [H14]; · iexact H14
  isplitl [H7]; · iexact H7
  iintro %V %O7 %V14 %h74 H4 H14 H7
  iapply (wp_ld c E Q) $$ H3
  iintro H3
  iapply (wp_head c E C S W WS arg4 arg14 Q arg7 harg7 10 14 4 (by omega) _ _ rfl _
    (accA_last C W).symm _ _ _ V14 h74)
  isplitl [H4]; · iexact H4
  isplitl [H14]; · iexact H14
  isplitl [H7]; · iexact H7
  iintro %V %O7 %V15 %h75 H4 H14 H7
  iapply (wp_lastColumn c E C S W WS arg14 Q _ _ V15)
  isplitl [H14]; · iexact H14
  iintro %V %V16 H14
  have h8 : TInv V 0 slices_S128x128_o0_0_S5x128 0 T8 := fun _ _ h => absurd h (by omega)
  have h9 : TInv V 5 slices_S128x128_o5_0_S5x128 0 T9 := fun _ _ h => absurd h (by omega)
  have h10 : TInv V 10 slices_S128x128_o10_0_S5x128 0 T10 := fun _ _ h => absurd h (by omega)
  have h12 : XInv V 0 T12 := fun _ _ h => absurd h (by omega)
  iapply (wp_batchScales c E arg8 arg9 arg10 arg12 arg14 Q 0 _ V _ _ _ _ _ h8 h9 h10 h12)
  isplitl [H14]; · iexact H14
  isplitl [H8]; · iexact H8
  isplitl [H9]; · iexact H9
  isplitl [H10]; · iexact H10
  isplitl [H12]; · iexact H12
  clear h8 h9 h10 h12
  iintro %T8 %T9 %T10 %T12 %h8 %h9 %h10 %h12 H14 H8 H9 H10 H12
  iapply (wp_batchScales c E arg8 arg9 arg10 arg12 arg14 Q 1 _ V _ _ _ _ _ h8 h9 h10 h12)
  isplitl [H14]; · iexact H14
  isplitl [H8]; · iexact H8
  isplitl [H9]; · iexact H9
  isplitl [H10]; · iexact H10
  isplitl [H12]; · iexact H12
  clear h8 h9 h10 h12
  iintro %T8 %T9 %T10 %T12 %h8 %h9 %h10 %h12 H14 H8 H9 H10 H12
  iapply (wp_batchScales c E arg8 arg9 arg10 arg12 arg14 Q 2 _ V _ _ _ _ _ h8 h9 h10 h12)
  isplitl [H14]; · iexact H14
  isplitl [H8]; · iexact H8
  isplitl [H9]; · iexact H9
  isplitl [H10]; · iexact H10
  isplitl [H12]; · iexact H12
  clear h8 h9 h10 h12
  iintro %T8 %T9 %T10 %T12 %h8 %h9 %h10 %h12 H14 H8 H9 H10 H12
  iapply (wp_batchScales c E arg8 arg9 arg10 arg12 arg14 Q 3 _ V _ _ _ _ _ h8 h9 h10 h12)
  isplitl [H14]; · iexact H14
  isplitl [H8]; · iexact H8
  isplitl [H9]; · iexact H9
  isplitl [H10]; · iexact H10
  isplitl [H12]; · iexact H12
  clear h8 h9 h10 h12
  iintro %T8 %T9 %T10 %T12 %h8 %h9 %h10 %h12 H14 H8 H9 H10 H12
  iapply (le_wp_ret (Q := Q))
  iapply Hk $$ %V %O5 %O6 %O7 %T8 %T9 %T10 %T12 %⟨V16, h55, h65, h75, h8, h9, h10, h12⟩ H3 H4 H5 H6 H7 H8 H9 H10 H11 H12 H13 H14

end

end Cert.KernelIdeal.Body
-- ==== Proof.Out.lean ====
/- What the body leaves in each of its outputs, as one function of what its inputs hold. -/
module

public import proofs.«01_k».proof.Proof.Tail
public import Idealize.ShloMosaic.Lib.ValueIdxCore

@[expose] public section

set_option maxRecDepth 16384

noncomputable section

namespace Cert.KernelIdeal.Body

open Idealize.ShloMosaic Idealize.SL.Sem Idealize.ShloMosaic.ValueIdx
open Cert.KernelIdeal Cert.KernelIdeal.Gen

variable {F : FTy → Type} [FloatOps F]

/-- An element read from the piece that holds it. -/
theorem piece_eq {s : Shape} {e : EltTy} {X : s.Idx → Elt F e} {off size : Fin s.rank → Nat}
    {inb : ∀ a, off a + size a ≤ s.size a} {w : (Rect.unit off size inb).shape.Idx → Elt F e}
    (h : View.ld X (Rect.unit off size inb) = w) (i : s.Idx) (j : (Rect.unit off size inb).shape.Idx)
    (hij : ∀ a, (i a).val = off a + (j a).val) : X i = w j := by
  rw [← h]
  show X i = X ((Rect.unit off size inb).idx j)
  refine congrArg X (funext fun a => Fin.ext ?_)
  rw [hij a]
  show _ = off a + 1 * (j a).val
  omega

section

variable (X : Vec F S4x128x5120 .bf16) (G : Vec F S1x5120 .f32) (W : Vec F S5120x1920 .fp8e4m3) (WS : Vec F S1x1920 .f32)

/-- The codes of the activations. -/
def codesF : Vec F S4x128x5120 .fp8e4m3 := fun (i : S4x128x5120.Idx) =>
  have h0 : (i 0).val < 4 := (i 0).isLt
  have h1 : (i 1).val < 128 := (i 1).isLt
  have h2 : (i 2).val < 5120 := (i 2).isLt
  codesA X G (4 * (i 0).val + (i 1).val / 32) (by omega) ((i 2).val / 128) (by omega)
    (ix3 (n0 := 1) (n1 := 32) (n2 := 128) 0 ⟨(i 1).val % 32, by omega⟩ ⟨(i 2).val % 128, by omega⟩)

/-- The row scales, in every lane. -/
def xsF : Vec F S512x128 .f32 := fun (i : S512x128.Idx) =>
  have h0 : (i 0).val < 512 := (i 0).isLt
  have h1 : (i 1).val < 128 := (i 1).isLt
  xsA X G ((i 0).val / 32) (by omega) (ix2 (n0 := 32) (n1 := 128) ⟨(i 0).val % 32, by omega⟩ ⟨(i 1).val, by omega⟩)

/-- The inverse scales of the heads, and the reciprocals of the row scales, by columns. -/
def invF : Vec F S512x128 .f32 := fun (i : S512x128.Idx) =>
  colA (codesF X G) (xsF X G) W WS (i 1).val (ix2 (n0 := 512) (n1 := 1) ⟨(i 0).val, (i 0).isLt⟩ 0)

/-- The codes of five heads, from head `B` on. -/
def outF (B : Nat) (hB : B ≤ 10) : Vec F S4x5x128x128 .fp8e4m3 := fun (i : S4x5x128x128.Idx) =>
  have h1 : (i 1).val < 5 := (i 1).isLt
  partA (codesF X G) (xsF X G) W WS (B + (i 1).val) (by omega)
    (ix4 (n0 := 4) (n1 := 1) (n2 := 128) (n3 := 128) ⟨(i 0).val, (i 0).isLt⟩ 0 ⟨(i 2).val, (i 2).isLt⟩ ⟨(i 3).val, (i 3).isLt⟩)

/-- The scales of five heads, from head `o` on. -/
def scF (o : Nat) (ho : S128x128.Slices ![o, 0] S5x128) : Vec F S5x4x128 .f32 := fun (i : S5x4x128.Idx) =>
  shapeCast S5x1x128 (extractStridedSlice S5x128 ![o, 0] (tOf (View.ld (invF X G W WS) (rinvT (i 1).val (i 1).isLt))) ho)
    shapeCasts_S5x128_S5x1x128 (ix3 (n0 := 5) (n1 := 1) (n2 := 128) ⟨(i 0).val, (i 0).isLt⟩ 0 ⟨(i 2).val, (i 2).isLt⟩)

/-- The row scales. -/
def xscF : Vec F S4x128 .f32 := fun (i : S4x128.Idx) =>
  extractStridedSlice S1x128 ![15, 0] (tOf (View.ld (invF X G W WS) (rinvT (i 0).val (i 0).isLt)))
    slices_S128x128_o15_0_S1x128 (ix2 (n0 := 1) (n1 := 128) 0 ⟨(i 1).val, (i 1).isLt⟩)

variable {X G W WS}

theorem codesF_of {C : Vec F S4x128x5120 .fp8e4m3} (h : CInv X G 16 0 C) : C = codesF X G := by
  funext (i : S4x128x5120.Idx)
  have h0 : (i 0).val < 4 := (i 0).isLt
  have h1 : (i 1).val < 128 := (i 1).isLt
  have h2 : (i 2).val < 5120 := (i 2).isLt
  refine piece_eq (h (4 * (i 0).val + (i 1).val / 32) (by omega) ((i 2).val / 128) (by omega) (by omega)) i _ ?_
  intro (a : Fin 3)
  match a with
  | ⟨0, _⟩ => show (i 0).val = (4 * (i 0).val + (i 1).val / 32) / 4 + 0; omega
  | ⟨1, _⟩ => show (i 1).val = 32 * ((4 * (i 0).val + (i 1).val / 32) % 4) + (i 1).val % 32; omega
  | ⟨2, _⟩ => show (i 2).val = 128 * ((i 2).val / 128) + (i 2).val % 128; omega

theorem xsF_of {S : Vec F S512x128 .f32} (h : SInv X G 16 S) : S = xsF X G := by
  funext (i : S512x128.Idx)
  have h0 : (i 0).val < 512 := (i 0).isLt
  refine piece_eq (h ((i 0).val / 32) (by omega) (by omega)) i _ ?_
  intro (a : Fin 2)
  match a with
  | ⟨0, _⟩ => show (i 0).val = 32 * ((i 0).val / 32) + (i 0).val % 32; omega
  | ⟨1, _⟩ => show (i 1).val = 0 + (i 1).val; omega

theorem outF_of {B : Nat} {hB : B ≤ 10} {O : Vec F S4x5x128x128 .fp8e4m3}
    (h : OInv (codesF X G) (xsF X G) W WS B hB 5 O) : O = outF X G W WS B hB := by
  funext (i : S4x5x128x128.Idx)
  have h1 : (i 1).val < 5 := (i 1).isLt
  refine piece_eq (h (i 1).val h1 h1) i _ ?_
  intro (a : Fin 4)
  match a with
  | ⟨0, _⟩ => show (i 0).val = 0 + (i 0).val; omega
  | ⟨1, _⟩ => show (i 1).val = (i 1).val + 0; omega
  | ⟨2, _⟩ => show (i 2).val = 0 + (i 2).val; omega
  | ⟨3, _⟩ => show (i 3).val = 0 + (i 3).val; omega

/-- The first sixteen columns are named. -/
theorem invF_of {V : Vec F S512x128 .f32} (h : HInv (codesF X G) (xsF X G) W WS 16 V) (i : S512x128.Idx)
    (hi : (i 1).val < 16) : V i = invF X G W WS i := by
  refine piece_eq (h (i 1).val hi hi) i _ ?_
  intro (a : Fin 2)
  match a with
  | ⟨0, _⟩ => show (i 0).val = 0 + (i 0).val; omega
  | ⟨1, _⟩ => show (i 1).val = (i 1).val + 0; omega

/-- A reciprocal is taken element by element. -/
theorem recip_congr {S : Shape} (v v' : FVec F S .f32) (i : S.Idx) (h : v i = v' i) : recip v i = recip v' i := by
  simp only [recip, field, fieldStep, bitcastToFloat, subi, select, cmpf, ori, broadcast, h]

/-- The transposed scales read one column. -/
theorem tOf_congr (v v' : Vec F S128x128 .f32) (a b : Fin 128) (h : v (ix2 b a) = v' (ix2 b a)) :
    tOf v (ix2 a b) = tOf v' (ix2 a b) := by
  refine recip_congr _ _ _ ?_
  rw [show transpose S128x128 [1, 0] v transposes_S128x128_p1_0_S128x128 (ix2 a b) = v (ix2 b a) from
      transpose_apply _ v _ _ _ fun c => match c with | ⟨0, _⟩ => rfl | ⟨1, _⟩ => rfl,
    show transpose S128x128 [1, 0] v' transposes_S128x128_p1_0_S128x128 (ix2 a b) = v' (ix2 b a) from
      transpose_apply _ v' _ _ _ fun c => match c with | ⟨0, _⟩ => rfl | ⟨1, _⟩ => rfl, h]

theorem tOf_ld_congr {V : Vec F S512x128 .f32} (h : HInv (codesF X G) (xsF X G) W WS 16 V) (b : Nat) (hb : b < 4)
    (i : S128x128.Idx) (hi : (i 0).val < 16) :
    tOf (View.ld V (rinvT b hb)) i = tOf (View.ld (invF X G W WS) (rinvT b hb)) i := by
  rw [eq_ix2 i]
  refine tOf_congr _ _ _ _ ?_
  refine invF_of h _ ?_
  show 0 + 1 * (i 0).val < 16
  omega

theorem scF_of {V : Vec F S512x128 .f32} (h : HInv (codesF X G) (xsF X G) W WS 16 V) {o : Nat} (ho10 : o ≤ 10)
    {ho : S128x128.Slices ![o, 0] S5x128} {T : Vec F S5x4x128 .f32} (hT : TInv V o ho 4 T) : T = scF X G W WS o ho := by
  funext (i : S5x4x128.Idx)
  have h1 : (i 1).val < 4 := (i 1).isLt
  have e : extractStridedSlice S5x128 ![o, 0] (tOf (View.ld V (rinvT (i 1).val h1))) ho
      = extractStridedSlice S5x128 ![o, 0] (tOf (View.ld (invF X G W WS) (rinvT (i 1).val h1))) ho := by
    funext (j : S5x128.Idx)
    have j0 : (j 0).val < 5 := (j 0).isLt
    refine tOf_ld_congr h _ _ _ ?_
    show o + (j 0).val < 16
    omega
  refine (piece_eq (hT (i 1).val h1 h1) i
    (ix3 (n0 := 5) (n1 := 1) (n2 := 128) ⟨(i 0).val, (i 0).isLt⟩ 0 ⟨(i 2).val, (i 2).isLt⟩) ?_).trans ?_
  · intro (a : Fin 3)
    match a with
    | ⟨0, _⟩ => show (i 0).val = 0 + (i 0).val; omega
    | ⟨1, _⟩ => show (i 1).val = (i 1).val + 0; omega
    | ⟨2, _⟩ => show (i 2).val = 0 + (i 2).val; omega
  · rw [e]; rfl

theorem xscF_of {V : Vec F S512x128 .f32} (h : HInv (codesF X G) (xsF X G) W WS 16 V)
    {T : Vec F S4x128 .f32} (hT : XInv V 4 T) : T = xscF X G W WS := by
  funext (i : S4x128.Idx)
  have h1 : (i 0).val < 4 := (i 0).isLt
  have e : extractStridedSlice S1x128 ![15, 0] (tOf (View.ld V (rinvT (i 0).val h1))) slices_S128x128_o15_0_S1x128
      = extractStridedSlice S1x128 ![15, 0] (tOf (View.ld (invF X G W WS) (rinvT (i 0).val h1)))
        slices_S128x128_o15_0_S1x128 := by
    funext (j : S1x128.Idx)
    have j0 : (j 0).val < 1 := (j 0).isLt
    refine tOf_ld_congr h _ _ _ ?_
    show 15 + (j 0).val < 16
    omega
  refine (piece_eq (hT (i 0).val h1 h1) i (ix2 (n0 := 1) (n1 := 128) 0 ⟨(i 1).val, (i 1).isLt⟩) ?_).trans ?_
  · intro (a : Fin 2)
    match a with
    | ⟨0, _⟩ => show (i 0).val = (i 0).val + 0; omega
    | ⟨1, _⟩ => show (i 1).val = 0 + (i 1).val; omega
  · rw [e]; rfl

end

end Cert.KernelIdeal.Body
-- ==== Proof.KerRows.lean ====
/- The kernel's row blocks over the extended reals: the codes and the scales of the normalised rows, entry by entry. -/
module

public import proofs.«01_k».proof.Proof.Out
public import proofs.«01_k».proof.Proof.Spec
public import Idealize.ShloMosaic.Lib.Pipeline.Value
public import Idealize.ShloMosaic.Lib.Pointwise.ShapeOpsCore

@[expose] public section

set_option maxRecDepth 16384

noncomputable section

namespace Cert.KernelIdeal.Rows

open Idealize.ShloMosaic hiding ix0 ix1 ix2 ix3 ix4
open Idealize.ShloMosaic.ValueIdx
open Cert.KernelIdeal Cert.KernelIdeal.Gen Cert.KernelIdeal.Body Cert.Scale Cert.Spec

theorem ofB (b : BitVec 32) : (FloatOps.ofBits .f32 b : Ideal .f32) = Ideal.ofBits .f32 b := rfl

theorem ofBits_zero : Ideal.ofBits .f32 0x00000000#32 = 0 :=
  (congrArg (Ideal.ofBits .f32) (show 0x00000000#32 = BitVec.ofNat 32 (0 * 8388608) by decide)).trans pw_zero

theorem ofBits_bot : Ideal.ofBits .f32 0xFF800000#32 = ⊥ := by
  unfold Ideal.ofBits
  show Ideal.ieee 8 23 0xFF800000#32 = ⊥
  unfold Ideal.ieee
  simp [show ((0xFF800000#32).extractLsb' 31 1 : BitVec 1) = 1#1 by decide,
    show ((0xFF800000#32).extractLsb' 23 8 : BitVec 8) = 255#8 by decide,
    show ((0xFF800000#32).extractLsb' 0 23 : BitVec 23) = 0#23 by decide]

section Layout

variable {α : Type} {N : Nat}

/-- A read through a rectangle of unit stride. -/
theorem ld_at {s : Shape} {e : EltTy} (X : s.Idx → Elt Ideal e) {off size : Fin s.rank → Nat}
    {inb : ∀ a, off a + size a ≤ s.size a} (i : s.Idx) (j : (Rect.unit off size inb).shape.Idx)
    (hij : ∀ a, (i a).val = off a + (j a).val) : View.ld X (Rect.unit off size inb) j = X i :=
  (piece_eq (rfl : View.ld X (Rect.unit off size inb) = View.ld X (Rect.unit off size inb)) i j hij).symm

theorem bcLane (v : (⟨2, ![N, 1]⟩ : Shape).Idx → α) (h : (⟨2, ![N, 1]⟩ : Shape).Broadcasts ⟨2, ![N, 128]⟩)
    (hN : N ≠ 1) (i : Fin N) (l : Fin 128) :
    broadcastTo ⟨2, ![N, 128]⟩ v h (ix2 i l) = v (ix2 i 0) :=
  broadcastTo_apply v h _ _ fun a => by
    match a with
    | ⟨0, _⟩ => exact (if_neg hN).symm
    | ⟨1, _⟩ => rfl

theorem bcRow (v : S1x128.Idx → α) (h : S1x128.Broadcasts ⟨2, ![N, 128]⟩) (i : Fin N) (l : Fin 128) :
    broadcastTo ⟨2, ![N, 128]⟩ v h (ix2 i l) = v (ix2 0 l) :=
  broadcastTo_apply v h _ _ fun a => by
    match a with
    | ⟨0, _⟩ => rfl
    | ⟨1, _⟩ => rfl

theorem unit1 (v : (⟨1, ![N]⟩ : Shape).Idx → α) (h : (⟨1, ![N]⟩ : Shape).ShapeCasts ⟨2, ![N, 1]⟩) (i : Fin N) :
    shapeCast ⟨2, ![N, 1]⟩ v h (ix2 i 0) = v (ix1 i) :=
  shapeCast_apply v _ _ _ (by
    rw [Shape.rowMajor_val_one, Shape.rowMajor_val_two]
    show i.val = i.val * 1 + 0
    omega)

theorem lift2 (h : (⟨2, ![N, 128]⟩ : Shape).Reduces [1] ⟨1, ![N]⟩) (i : Fin N) (l : Fin 128) :
    h.lift (ix1 i) l = ix2 i l := by
  funext a
  match a with
  | ⟨0, _⟩ => rfl
  | ⟨1, _⟩ => rfl

end Layout

/-! ## One row block -/

/-- A token's activations. -/
def rowX (X : Vec Ideal S4x128x5120 .bf16) (b : Fin 4) (t : Fin 128) (k : Fin 5120) : EReal := X (ix3 b t k)

/-- The weights of the normalisation. -/
def rowG (G : Vec Ideal S1x5120 .f32) (k : Fin 5120) : EReal := G (ix2 0 k)

variable (X : Vec Ideal S4x128x5120 .bf16) (G : Vec Ideal S1x5120 .f32)

/-- Token `i` of row block `r`. -/
def tok (r : Nat) (hr : r < 4) (i : Fin 32) : Fin 128 := ⟨32 * r + i.val, by omega⟩

theorem x_apply (b r c : Nat) (hb : b < 4) (hr : r < 4) (hc : c < 40) (i : Fin 32) (l : Fin 128) :
    xOf (View.ld X (rx b r c hb hr hc)) (ix2 i l) = rowX X ⟨b, hb⟩ (tok r hr i) (at128 c hc l) := by
  unfold xOf
  rw [extf_apply]
  refine (shapeCast_apply _ _ _ (ix3 0 i l : S1x32x128.Idx) (by
    rw [Shape.rowMajor_val_three, Shape.rowMajor_val_two]
    show (0 * 32 + i.val) * 128 + l.val = i.val * 128 + l.val
    omega)).trans ?_
  refine ld_at X (ix3 ⟨b, hb⟩ (tok r hr i) (at128 c hc l) : S4x128x5120.Idx) _ fun a => ?_
  match a with
  | ⟨0, _⟩ => rfl
  | ⟨1, _⟩ => rfl
  | ⟨2, _⟩ => rfl

theorem g_apply (c : Nat) (hc : c < 40) (l : Fin 128) : View.ld G (rg c hc) (ix2 0 l) = rowG G (at128 c hc l) := by
  refine ld_at G (ix2 0 (at128 c hc l) : S1x5120.Idx) _ fun a => ?_
  match a with
  | ⟨0, _⟩ => rfl
  | ⟨1, _⟩ => rfl

theorem p_apply (b r : Nat) (hb : b < 4) (hr : r < 4) (c : Nat) (hc : c < 40) (i : Fin 32) (l : Fin 128) :
    pA X G b r hb hr c hc (ix2 i l)
      = rowX X ⟨b, hb⟩ (tok r hr i) (at128 c hc l) * rowG G (at128 c hc l) := by
  unfold pA pOf
  rw [mulf_apply, x_apply, bcRow (N := 32), shapeCast_self, g_apply]

theorem sq_apply (b r : Nat) (hb : b < 4) (hr : r < 4) (i : Fin 32) (l : Fin 128) : ∀ (k : Nat) (hk : k ≤ 40),
    sqA X b r hb hr k hk (ix2 i l) = laneSum (rowX X ⟨b, hb⟩ (tok r hr i)) l k hk
  | 0, _ => by
    unfold sqA laneSum
    rw [broadcast_apply]
    exact ofBits_zero
  | k + 1, hk => by
    unfold sqA laneSum
    rw [addf_apply, mulf_apply, x_apply, sq_apply b r hb hr i l k (by omega)]

theorem am_apply (b r : Nat) (hb : b < 4) (hr : r < 4) (i : Fin 32) (l : Fin 128) : ∀ (k : Nat) (hk : k ≤ 40),
    amA X G b r hb hr k hk (ix2 i l)
      = laneMax (fun k => rowX X ⟨b, hb⟩ (tok r hr i) k * rowG G k) l k hk
  | 0, _ => by
    unfold amA laneMax
    rw [broadcast_apply]
    exact ofBits_zero
  | k + 1, hk => by
    unfold amA laneMax
    rw [maximumf_apply, am_apply b r hb hr i l k (by omega)]
    refine congrArg (max _) ?_
    exact congrArg mag (p_apply X G b r hb hr k (by omega) i l)

/-- The sum over a row's lanes. -/
def sumR (sq : FVec Ideal S32x128 .f32) : FVec Ideal S32 .f32 :=
  multiReduction .add [1] S32 sq 0x00000000#32 reduces_S32x128_S32 (.inl rfl) rfl

theorem sumR_apply (sq : FVec Ideal S32x128 .f32) (i : Fin 32) : sumR sq (ix1 i) = ∑ l : Fin 128, sq (ix2 i l) := by
  unfold sumR
  refine (Ideal.multiReduction_add_single _ _ _ _ _ _).trans ?_
  exact Finset.sum_congr rfl fun l _ => congrArg sq (lift2 _ i l)

/-- The maximum over a row's lanes. -/
def maxR (am : FVec Ideal S32x128 .f32) : FVec Ideal S32 .f32 :=
  multiReduction .maximumf [1] S32 am 0xFF800000#32 reduces_S32x128_S32 (.inl rfl) rfl

theorem maxR_apply (am : FVec Ideal S32x128 .f32) (i : Fin 32) :
    maxR am (ix1 i) = (Finset.univ : Finset (Fin 128)).fold max ⊥ fun l => am (ix2 i l) := by
  unfold maxR
  refine (Ideal.multiReduction_maximumf_single _ _ _ _ _ _).trans ?_
  refine congrArg₂ (fun z f => Finset.fold max z f Finset.univ) ofBits_bot (funext fun l => ?_)
  exact congrArg am (lift2 _ i l)

theorem rs_apply (b r : Nat) (hb : b < 4) (hr : r < 4) (i : Fin 32) :
    rsOf (sqA X b r hb hr 40 le_rfl) (ix2 i 0) = rms (rowX X ⟨b, hb⟩ (tok r hr i)) := by
  have h : rsOf (sqA X b r hb hr 40 le_rfl) (ix2 i 0) = Ideal.rsqrt (Ideal.div
    (shapeCast S32x1 (sumR (sqA X b r hb hr 40 le_rfl)) shapeCasts_S32_S32x1 (ix2 i 0)) (Ideal.ofBits .f32 0x45A00000#32)
      + Ideal.ofBits .f32 0x358637BD#32) := rfl
  rw [h, unit1 (N := 32), sumR_apply]
  simp only [sq_apply]
  rw [lanes_sum]
  rfl

/-- What the row's scale is taken of. -/
def topR (sq am : FVec Ideal S32x128 .f32) : FVec Ideal S32x1 .f32 :=
  mulf (mulf (shapeCast S32x1 (maxR am) shapeCasts_S32_S32x1) (rsOf sq)) (broadcast S32x1 (Scalar.ofBits .f32 0x3B124925#32))

theorem topR_apply (b r : Nat) (hb : b < 4) (hr : r < 4) (i : Fin 32) :
    topR (sqA X b r hb hr 40 le_rfl) (amA X G b r hb hr 40 le_rfl) (ix2 i 0)
      = top (hv (rowX X ⟨b, hb⟩ (tok r hr i)) (rowG G)) := by
  unfold topR
  rw [mulf_apply, mulf_apply, broadcast_apply, ofB, unit1 (N := 32), maxR_apply, rs_apply]
  simp only [am_apply]
  rw [lanes_max, top_hv]

theorem inv_apply (b r : Nat) (hb : b < 4) (hr : r < 4) (i : Fin 32) :
    invRow (sqA X b r hb hr 40 le_rfl) (amA X G b r hb hr 40 le_rfl) (ix2 i 0)
      = inv (top (hv (rowX X ⟨b, hb⟩ (tok r hr i)) (rowG G))) := by
  have h : invRow (sqA X b r hb hr 40 le_rfl) (amA X G b r hb hr 40 le_rfl)
    = invOf (topR (sqA X b r hb hr 40 le_rfl) (amA X G b r hb hr 40 le_rfl)) := rfl
  rw [h, invOf_apply, topR_apply]

/-- The kept row scales. -/
theorem xs_apply (n : Nat) (hn : n < 16) (i : Fin 32) (l : Fin 128) :
    xsA X G n hn (ix2 i l) = scl (hv (rowX X ⟨n / 4, by omega⟩ (tok (n % 4) (by omega) i)) (rowG G)) := by
  unfold xsA
  rw [shapeCast_self, bcLane (N := 32) _ _ (by omega), shapeCast_self]
  exact recip_inv _ _ _ (inv_apply X G (n / 4) (n % 4) (by omega) (by omega) i)

theorem clip_apply {S : Shape} (v : FVec Ideal S .f32) (i : S.Idx) : clip v i = clipE (v i) := by
  unfold clip clipE
  rw [truncf_apply, minimumf_apply, maximumf_apply, broadcast_apply, broadcast_apply, ofB, ofB]

/-- The codes. -/
theorem codes_apply (n : Nat) (hn : n < 16) (c : Nat) (hc : c < 40) (i : Fin 32) (l : Fin 128) :
    codesA X G n hn c hc (ix3 0 i l)
      = code (hv (rowX X ⟨n / 4, by omega⟩ (tok (n % 4) (by omega) i)) (rowG G)) (at128 c hc l) := by
  unfold codesA
  refine (shapeCast_apply _ _ _ (ix2 i l : S32x128.Idx) (by
    rw [Shape.rowMajor_val_three, Shape.rowMajor_val_two]
    show i.val * 128 + l.val = (0 * 32 + i.val) * 128 + l.val
    omega)).trans ?_
  rw [clip_apply, mulf_apply, p_apply, bcLane (N := 32) _ _ (by omega)]
  unfold multA
  rw [mulf_apply, rs_apply, inv_apply, code_hv]

/-! ## All rows -/

theorem codesF_apply (b : Fin 4) (t : Fin 128) (k : Fin 5120) :
    codesF X G (ix3 b t k) = code (hv (rowX X b t) (rowG G)) k := by
  refine (codes_apply X G (4 * b.val + t.val / 32) (by omega) (k.val / 128) (by omega) ⟨t.val % 32, by omega⟩
    ⟨k.val % 128, by omega⟩).trans ?_
  have hb : (⟨(4 * b.val + t.val / 32) / 4, by omega⟩ : Fin 4) = b := Fin.ext (by show (4 * b.val + t.val / 32) / 4 = b.val; omega)
  have ht : tok ((4 * b.val + t.val / 32) % 4) (by omega) ⟨t.val % 32, by omega⟩ = t :=
    Fin.ext (by show 32 * ((4 * b.val + t.val / 32) % 4) + t.val % 32 = t.val; omega)
  rw [hb, ht, at128_div]

/-- Row `n` of all rows: token `n % 128` of batch `n / 128`. -/
theorem xsF_apply (b : Fin 4) (t : Fin 128) (l : Fin 128) :
    xsF X G (ix2 ⟨128 * b.val + t.val, by omega⟩ l) = scl (hv (rowX X b t) (rowG G)) := by
  refine (xs_apply X G ((128 * b.val + t.val) / 32) (by omega) ⟨(128 * b.val + t.val) % 32, by omega⟩ l).trans ?_
  have hb : (⟨(128 * b.val + t.val) / 32 / 4, by omega⟩ : Fin 4) = b :=
    Fin.ext (by show (128 * b.val + t.val) / 32 / 4 = b.val; omega)
  have ht : tok ((128 * b.val + t.val) / 32 % 4) (by omega) ⟨(128 * b.val + t.val) % 32, by omega⟩ = t :=
    Fin.ext (by show 32 * ((128 * b.val + t.val) / 32 % 4) + (128 * b.val + t.val) % 32 = t.val; omega)
  rw [hb, ht]

end Cert.KernelIdeal.Rows
-- ==== Proof.KerHeads.lean ====
/- The kernel's heads over the extended reals: the outputs, their codes and their scales, entry by entry. -/
module

public import proofs.«01_k».proof.Proof.KerRows
public import Idealize.ShloMosaic.Lib.MatmulPlain

@[expose] public section

set_option maxRecDepth 16384

noncomputable section

namespace Cert.KernelIdeal.Rows

open Idealize.ShloMosaic hiding ix0 ix1 ix2 ix3 ix4
open Idealize.ShloMosaic.ValueIdx
open Cert.KernelIdeal Cert.KernelIdeal.Gen Cert.KernelIdeal.Body Cert.Scale Cert.Spec

/-- The row of token `t` of batch `b` among all rows. -/
def rowN (b : Fin 4) (t : Fin 128) : Fin 512 := ⟨128 * b.val + t.val, by omega⟩

/-- Lane `l` of head `h` among the columns. -/
def colN (h : Nat) (hh : h < 15) (l : Fin 128) : Fin 1920 := ⟨128 * h + l.val, by omega⟩

theorem rows_apply (C : Vec Ideal S4x128x5120 .fp8e4m3) (b : Fin 4) (t : Fin 128) (k : Fin 5120) :
    rowsA C (ix2 (rowN b t) k) = C (ix3 b t k) := by
  unfold rowsA
  rw [shapeCast_self]
  exact shapeCast_apply _ _ _ (ix3 b t k : S4x128x5120.Idx) (by
    rw [Shape.rowMajor_val_three, Shape.rowMajor_val_two]
    show (b.val * 128 + t.val) * 5120 + k.val = (128 * b.val + t.val) * 5120 + k.val
    omega)

/-! ## The products -/

theorem dot256 (a : FVec Ideal S512x5120 .fp8e4m3) (w : Vec Ideal S5120x256 .fp8e4m3) (r : Fin 512) (n : Fin 256) :
    accOf a w (ix2 r n) = ∑ k : Fin 5120, a (ix2 r k) * w (ix2 k n) := by
  unfold accOf
  refine (Ideal.matmul_constant_zero_apply _ none a w (ix2 r n)).trans ?_
  rw [← Equiv.sum_comp (contrEquiv1 dot_S512x5120_S5120x256_S512x256_1_0_0_1_n_n 5120 rfl rfl).symm]
  refine Finset.sum_congr rfl fun k _ => ?_
  have hk := contrEquiv1_symm_val dot_S512x5120_S5120x256_S512x256_1_0_0_1_n_n 5120 rfl rfl k
  refine congrArg₂ (· * ·) (congrArg a ?_) (congrArg w ?_)
  · funext i; apply Fin.ext
    match i with
    | ⟨0, _⟩ => rfl
    | ⟨1, _⟩ => exact hk
  · funext i; apply Fin.ext
    match i with
    | ⟨0, _⟩ => exact hk
    | ⟨1, _⟩ => rfl

theorem dot128 (a : FVec Ideal S512x5120 .fp8e4m3) (w : FVec Ideal S5120x128 .fp8e4m3) (r : Fin 512) (n : Fin 128) :
    matmul (F := Ideal) dot_S512x5120_S5120x128_S512x128_1_0_0_1_n_n none a w (constant S512x128 .f32 0x00000000#32) (ix2 r n)
      = ∑ k : Fin 5120, a (ix2 r k) * w (ix2 k n) := by
  refine (Ideal.matmul_constant_zero_apply _ none a w (ix2 r n)).trans ?_
  rw [← Equiv.sum_comp (contrEquiv1 dot_S512x5120_S5120x128_S512x128_1_0_0_1_n_n 5120 rfl rfl).symm]
  refine Finset.sum_congr rfl fun k _ => ?_
  have hk := contrEquiv1_symm_val dot_S512x5120_S5120x128_S512x128_1_0_0_1_n_n 5120 rfl rfl k
  refine congrArg₂ (· * ·) (congrArg a ?_) (congrArg w ?_)
  · funext i; apply Fin.ext
    match i with
    | ⟨0, _⟩ => rfl
    | ⟨1, _⟩ => exact hk
  · funext i; apply Fin.ext
    match i with
    | ⟨0, _⟩ => exact hk
    | ⟨1, _⟩ => rfl

/-- The product of a head, whichever of the three ways it is taken. -/
theorem acc_apply (C : Vec Ideal S4x128x5120 .fp8e4m3) (W : Vec Ideal S5120x1920 .fp8e4m3) (h : Nat) (hh : h < 15)
    (r : Fin 512) (l : Fin 128) :
    accA C W h (ix2 r l) = ∑ k : Fin 5120, rowsA C (ix2 r k) * W (ix2 k (colN h hh l)) := by
  unfold accA
  by_cases e : h < 14
  · rw [dif_pos e]
    by_cases p : h % 2 = 0
    · rw [if_pos p]
      refine (extractStridedSlice_apply _ _ _ _ (ix2 r ⟨l.val, by omega⟩ : S512x256.Idx) fun a => by
        match a with
        | ⟨0, _⟩ => exact (Nat.zero_add _).symm
        | ⟨1, _⟩ => exact (Nat.zero_add _).symm).trans ?_
      rw [dot256]
      refine Finset.sum_congr rfl fun k _ => congrArg (_ * ·) ?_
      refine ld_at W (ix2 k (colN h hh l) : S5120x1920.Idx) _ fun a => ?_
      match a with
      | ⟨0, _⟩ => exact (Nat.zero_add _).symm
      | ⟨1, _⟩ => show 128 * h + l.val = 256 * (h / 2) + l.val; omega
    · rw [if_neg p]
      refine (extractStridedSlice_apply _ _ _ _ (ix2 r ⟨128 + l.val, by omega⟩ : S512x256.Idx) fun a => by
        match a with
        | ⟨0, _⟩ => exact (Nat.zero_add _).symm
        | ⟨1, _⟩ => rfl).trans ?_
      rw [dot256]
      refine Finset.sum_congr rfl fun k _ => congrArg (_ * ·) ?_
      refine ld_at W (ix2 k (colN h hh l) : S5120x1920.Idx) _ fun a => ?_
      match a with
      | ⟨0, _⟩ => exact (Nat.zero_add _).symm
      | ⟨1, _⟩ => show 128 * h + l.val = 256 * (h / 2) + (128 + l.val); omega
  · rw [dif_neg e, dot128]
    refine Finset.sum_congr rfl fun k _ => congrArg (_ * ·) ?_
    refine ld_at W (ix2 k (colN h hh l) : S5120x1920.Idx) _ fun a => ?_
    match a with
    | ⟨0, _⟩ => exact (Nat.zero_add _).symm
    | ⟨1, _⟩ => show 128 * h + l.val = 1792 + l.val; omega

/-! ## The heads -/

variable (X : Vec Ideal S4x128x5120 .bf16) (G : Vec Ideal S1x5120 .f32) (W : Vec Ideal S5120x1920 .fp8e4m3) (WS : Vec Ideal S1x1920 .f32)

/-- The outputs of a block's token in head `h`. -/
def yH (b : Fin 4) (t : Fin 128) (h : Nat) (hh : h < 15) (l : Fin 128) : EReal :=
  yv (rowX X b t) (rowG G) (fun k => W (ix2 k (colN h hh l))) (WS (ix2 0 (colN h hh l)))

theorem y_apply (b : Fin 4) (t : Fin 128) (h : Nat) (hh : h < 15) (l : Fin 128) :
    yA (codesF X G) (xsF X G) W WS h hh (ix2 (rowN b t) l) = yH X G W WS b t h hh l := by
  have hw : View.ld WS (rws h hh) (ix2 0 l) = WS (ix2 0 (colN h hh l)) := by
    refine ld_at WS (ix2 0 (colN h hh l) : S1x1920.Idx) _ fun a => ?_
    match a with
    | ⟨0, _⟩ => rfl
    | ⟨1, _⟩ => rfl
  have hx : xsF X G (ix2 (rowN b t) l) = scl (hv (rowX X b t) (rowG G)) := xsF_apply X G b t l
  unfold yA yOf
  rw [mulf_apply, mulf_apply, bcRow (N := 512), shapeCast_self, hw, hx, acc_apply _ _ h hh]
  unfold yH yv
  simp only [rows_apply, codesF_apply]

/-- The largest magnitude of each row of a head. -/
def maxH (y : FVec Ideal S512x128 .f32) : FVec Ideal S512 .f32 :=
  multiReduction .maximumf [1] S512 (absf y) 0xFF800000#32 reduces_S512x128_S512 (.inl rfl) rfl

theorem maxH_apply (y : FVec Ideal S512x128 .f32) (r : Fin 512) : maxH y (ix1 r) = amax fun l => y (ix2 r l) := by
  unfold maxH amax
  refine (Ideal.multiReduction_maximumf_single _ _ _ _ _ _).trans ?_
  refine congrArg₂ (fun z f => Finset.fold max z f Finset.univ) ofBits_bot (funext fun l => ?_)
  exact congrArg (absf y) (lift2 _ r l)

theorem invHead_apply (y : FVec Ideal S512x128 .f32) (r : Fin 512) :
    invHead y (ix2 r 0) = inv (top fun l => y (ix2 r l)) := by
  have h : invHead y = invOf (mulf (shapeCast S512x1 (maxH y) shapeCasts_S512_S512x1)
    (broadcast S512x1 (Scalar.ofBits .f32 0x3B124925#32))) := rfl
  rw [h, invOf_apply, mulf_apply, broadcast_apply, ofB, unit1 (N := 512), maxH_apply]
  rfl

theorem inv_y (b : Fin 4) (t : Fin 128) (h : Nat) (hh : h < 15) :
    invHead (yA (codesF X G) (xsF X G) W WS h hh) (ix2 (rowN b t) 0) = inv (top (yH X G W WS b t h hh)) := by
  rw [invHead_apply]
  simp only [y_apply]

theorem part_apply (b : Fin 4) (t : Fin 128) (h : Nat) (hh : h < 15) (l : Fin 128) :
    partA (codesF X G) (xsF X G) W WS h hh (ix4 b 0 t l) = code (yH X G W WS b t h hh) l := by
  unfold partA
  refine (shapeCast_apply _ _ _ (ix3 b t l : S4x128x128.Idx) (by
    rw [Shape.rowMajor_val_three, Shape.rowMajor_val_four]
    show (b.val * 128 + t.val) * 128 + l.val = ((b.val * 1 + 0) * 128 + t.val) * 128 + l.val
    omega)).trans ?_
  refine (shapeCast_apply _ _ _ (ix2 (rowN b t) l : S512x128.Idx) (by
    rw [Shape.rowMajor_val_three, Shape.rowMajor_val_two]
    show (128 * b.val + t.val) * 128 + l.val = (b.val * 128 + t.val) * 128 + l.val
    omega)).trans ?_
  rw [clip_apply, mulf_apply, bcLane (N := 512) _ _ (by omega), y_apply, inv_y]
  rfl

theorem outF_apply (B : Nat) (hB : B ≤ 10) (b : Fin 4) (j : Fin 5) (t : Fin 128) (l : Fin 128) :
    outF X G W WS B hB (ix4 b j t l) = code (yH X G W WS b t (B + j.val) (by omega)) l :=
  part_apply X G W WS b t (B + j.val) (by omega) l

/-! ## The scales -/

theorem col_head (b : Fin 4) (t : Fin 128) (h : Nat) (hh : h < 15) :
    colA (codesF X G) (xsF X G) W WS h (ix2 (rowN b t) 0) = inv (top (yH X G W WS b t h hh)) := by
  unfold colA
  rw [dif_pos hh, shapeCast_self, inv_y]

theorem col_last (b : Fin 4) (t : Fin 128) :
    colA (codesF X G) (xsF X G) W WS 15 (ix2 (rowN b t) 0) = inv (top (hv (rowX X b t) (rowG G))) := by
  unfold colA
  rw [dif_neg (by omega), shapeCast_self]
  refine recip_sc _ _ _ ?_
  refine (extractStridedSlice_apply _ _ _ _ (ix2 (rowN b t) 0 : S512x128.Idx) fun a => by
    match a with
    | ⟨0, _⟩ => exact (Nat.zero_add _).symm
    | ⟨1, _⟩ => rfl).trans ?_
  exact xsF_apply X G b t 0

theorem ldT_apply (V : Vec Ideal S512x128 .f32) (b : Fin 4) (j t : Fin 128) :
    transpose S128x128 [1, 0] (View.ld V (rinvT b.val b.isLt)) transposes_S128x128_p1_0_S128x128 (ix2 j t) = V (ix2 (rowN b t) j) := by
  refine (transpose_apply _ _ _ _ (ix2 t j : S128x128.Idx) fun a => by
    match a with
    | ⟨0, _⟩ => rfl
    | ⟨1, _⟩ => rfl).trans ?_
  refine ld_at V (ix2 (rowN b t) j : S512x128.Idx) _ fun a => ?_
  match a with
  | ⟨0, _⟩ => rfl
  | ⟨1, _⟩ => exact (Nat.zero_add _).symm

theorem t_head (b : Fin 4) (t : Fin 128) (h : Nat) (hh : h < 15) :
    tOf (View.ld (invF X G W WS) (rinvT b.val b.isLt)) (ix2 ⟨h, by omega⟩ t) = scl (yH X G W WS b t h hh) := by
  unfold tOf
  refine recip_inv _ _ _ ?_
  refine (ldT_apply _ b ⟨h, by omega⟩ t).trans ?_
  exact col_head X G W WS b t h hh

theorem t_last (b : Fin 4) (t : Fin 128) :
    tOf (View.ld (invF X G W WS) (rinvT b.val b.isLt)) (ix2 15 t) = scl (hv (rowX X b t) (rowG G)) := by
  unfold tOf
  refine recip_inv _ _ _ ?_
  refine (ldT_apply _ b 15 t).trans ?_
  exact col_last X G W WS b t

theorem scF_apply (o : Nat) (ho : S128x128.Slices ![o, 0] S5x128) (h10 : o ≤ 10) (j : Fin 5) (b : Fin 4) (t : Fin 128) :
    scF X G W WS o ho (ix3 j b t) = scl (yH X G W WS b t (o + j.val) (by omega)) := by
  refine (shapeCast_apply _ _ _ (ix2 j t : S5x128.Idx) (by
    rw [Shape.rowMajor_val_three, Shape.rowMajor_val_two]
    show j.val * 128 + t.val = (j.val * 1 + 0) * 128 + t.val
    omega)).trans ?_
  refine (extractStridedSlice_apply _ _ _ _ (ix2 ⟨o + j.val, by omega⟩ t : S128x128.Idx) fun a => by
    match a with
    | ⟨0, _⟩ => rfl
    | ⟨1, _⟩ => exact (Nat.zero_add _).symm).trans ?_
  exact t_head X G W WS b t (o + j.val) (by omega)

theorem xscF_apply (b : Fin 4) (t : Fin 128) : xscF X G W WS (ix2 b t) = scl (hv (rowX X b t) (rowG G)) := by
  refine (extractStridedSlice_apply _ _ _ _ (ix2 15 t : S128x128.Idx) fun a => by
    match a with
    | ⟨0, _⟩ => rfl
    | ⟨1, _⟩ => exact (Nat.zero_add _).symm).trans ?_
  exact t_last X G W WS b t

end Cert.KernelIdeal.Rows
-- ==== Proof.BodyEq.lean ====
/- The printed body is the looped one: the two are compared effect by effect. -/
module

public import proofs.«01_k».proof.Proof.Body

@[expose] public section

set_option maxRecDepth 16384
set_option maxHeartbeats 4000000

noncomputable section

namespace Cert.KernelIdeal.Body

open Idealize.ShloMosaic Idealize.SL.Sem
open Cert.KernelIdeal Cert.KernelIdeal.Gen

universe v

variable {F : FTy → Type} [FloatOps F]

/-- Two programs that begin with the same effect and go on alike are the same. -/
theorem op_congr {E : Type → Type v} {α β : Type} {p p' : Prog E α} {e e' : E β} {k k' : β → Prog E α}
    (h : p = .op e k) (h' : p' = .op e' k') (he : e = e') (hk : ∀ v, k v = k' v) : p = p' := by
  subst he; subst h; subst h'; exact congrArg _ (funext hk)

section

variable (i : grid0.Coords)
  (arg1 : Memref sig .tc .vmem S4x128x5120 .bf16) (harg1 : arg1.IsWhole)
  (arg2 : Memref sig .tc .vmem S1x5120 .f32) (harg2 : arg2.IsWhole)
  (arg3 : Memref sig .tc .vmem S5120x1920 .fp8e4m3) (harg3 : arg3.IsWhole)
  (arg4 : Memref sig .tc .vmem S1x1920 .f32) (harg4 : arg4.IsWhole)
  (arg5 : Memref sig .tc .vmem S4x5x128x128 .fp8e4m3) (harg5 : arg5.IsWhole)
  (arg6 : Memref sig .tc .vmem S4x5x128x128 .fp8e4m3) (harg6 : arg6.IsWhole)
  (arg7 : Memref sig .tc .vmem S4x5x128x128 .fp8e4m3) (harg7 : arg7.IsWhole)
  (arg8 : Memref sig .tc .vmem S5x4x128 .f32) (harg8 : arg8.IsWhole)
  (arg9 : Memref sig .tc .vmem S5x4x128 .f32) (harg9 : arg9.IsWhole)
  (arg10 : Memref sig .tc .vmem S5x4x128 .f32) (harg10 : arg10.IsWhole)
  (arg11 : Memref sig .tc .vmem S4x128x5120 .fp8e4m3) (harg11 : arg11.IsWhole)
  (arg12 : Memref sig .tc .vmem S4x128 .f32) (harg12 : arg12.IsWhole)
  (arg13 : Memref sig .tc .vmem S512x128 .f32) (harg13 : arg13.IsWhole)
  (arg14 : Memref sig .tc .vmem S512x128 .f32) (harg14 : arg14.IsWhole)
  (arg15 : Memref sig .tc .vmem S32x5120 .f32) (harg15 : arg15.IsWhole)

/-- A program that is block `15 - n` and then `R` is blocks `15 - n` on, when `R` is the blocks after it. -/
theorem blocks_step {p R K : Pg F} (n : Nat) (hn : n + 1 ≤ 16)
    (h : p = block arg1 arg2 arg11 harg11 arg13 arg15 (15 - n) (by omega) R)
    (hR : R = blocks arg1 arg2 arg11 harg11 arg13 arg15 n (by omega) K) :
    p = blocks arg1 arg2 arg11 harg11 arg13 arg15 (n + 1) hn K := by
  subst hR; exact h

theorem body_eq : cc0_rmsnorm_qkv_quant (F := F) i arg1 harg1 arg2 harg2 arg3 harg3 arg4 harg4 arg5 harg5 arg6 harg6 arg7 harg7 arg8 harg8 arg9 harg9 arg10 harg10
      arg11 harg11 arg12 harg12 arg13 harg13 arg14 harg14 arg15 harg15 =
    blocks arg1 arg2 arg11 harg11 arg13 arg15 16 le_rfl
      (tail arg3 arg4 arg5 arg6 arg7 harg5 harg6 harg7 arg8 arg9 arg10 arg11 arg12 arg13 arg14) := by
  iterate 16
    refine blocks_step arg1 arg2 arg11 harg11 arg13 arg15 _ _ (R := ?_) ?_ ?_
    rotate_left
    · iterate 282 refine op_congr (E := TpuEff nD τ sig (Elt F) Λ₀ .tc) rfl rfl rfl (fun _ => ?_)
      exact rfl
  iterate 123 refine op_congr (E := TpuEff nD τ sig (Elt F) Λ₀ .tc) rfl rfl rfl (fun _ => ?_)
  exact rfl

end

end Cert.KernelIdeal.Body
-- ==== Proof.Run.lean ====
/- The kernel's run: the body's triple, the pipeline's proof data, and the frame. -/
module

public import proofs.«01_k».proof.Proof.BodyEq
public import proofs.«01_k».proof.Proof.Out
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's triple: from any contents of its outputs and scratch it leaves the named contents. -/
theorem wp_body (c : Dev nD) (E : Set ℕ) (Q : PUnit → sProp 𝕄) (i : grid0.Coords)
    (arg1 : Memref sig .tc .vmem S4x128x5120 .bf16) (harg1 : arg1.IsWhole)
    (arg2 : Memref sig .tc .vmem S1x5120 .f32) (harg2 : arg2.IsWhole)
    (arg3 : Memref sig .tc .vmem S5120x1920 .fp8e4m3) (harg3 : arg3.IsWhole)
    (arg4 : Memref sig .tc .vmem S1x1920 .f32) (harg4 : arg4.IsWhole)
    (arg5 arg6 arg7 : Memref sig .tc .vmem S4x5x128x128 .fp8e4m3) (harg5 : arg5.IsWhole) (harg6 : arg6.IsWhole) (harg7 : arg7.IsWhole)
    (arg8 arg9 arg10 : Memref sig .tc .vmem S5x4x128 .f32) (harg8 : arg8.IsWhole) (harg9 : arg9.IsWhole) (harg10 : arg10.IsWhole)
    (arg11 : Memref sig .tc .vmem S4x128x5120 .fp8e4m3) (harg11 : arg11.IsWhole)
    (arg12 : Memref sig .tc .vmem S4x128 .f32) (harg12 : arg12.IsWhole)
    (arg13 arg14 : Memref sig .tc .vmem S512x128 .f32) (harg13 : arg13.IsWhole) (harg14 : arg14.IsWhole)
    (arg15 : Memref sig .tc .vmem S32x5120 .f32) (harg15 : arg15.IsWhole)
    (X : Vec F S4x128x5120 .bf16) (G : Vec F S1x5120 .f32) (W : Vec F S5120x1920 .fp8e4m3) (WS : Vec F S1x1920 .f32)
    (O5 O6 O7 : Vec F S4x5x128x128 .fp8e4m3) (T8 T9 T10 : Vec F S5x4x128 .f32) (C : Vec F S4x128x5120 .fp8e4m3)
    (T12 : Vec F S4x128 .f32) (S V : Vec F S512x128 .f32) (P : Vec F S32x5120 .f32) :
    iprop(owns (c : Thread nD τ) arg1 fullShare X ∗ owns (c : Thread nD τ) arg2 fullShare G
      ∗ owns (c : Thread nD τ) arg3 fullShare W ∗ owns (c : Thread nD τ) arg4 fullShare WS
      ∗ owns (c : Thread nD τ) arg5 fullShare O5 ∗ owns (c : Thread nD τ) arg6 fullShare O6
      ∗ owns (c : Thread nD τ) arg7 fullShare O7 ∗ owns (c : Thread nD τ) arg8 fullShare T8
      ∗ owns (c : Thread nD τ) arg9 fullShare T9 ∗ owns (c : Thread nD τ) arg10 fullShare T10
      ∗ owns (c : Thread nD τ) arg11 fullShare C ∗ owns (c : Thread nD τ) arg12 fullShare T12
      ∗ owns (c : Thread nD τ) arg13 fullShare S ∗ owns (c : Thread nD τ) arg14 fullShare V
      ∗ owns (c : Thread nD τ) arg15 fullShare P
      ∗ (∀ S' V' P', owns (c : Thread nD τ) arg1 fullShare X -∗ owns (c : Thread nD τ) arg2 fullShare G
        -∗ owns (c : Thread nD τ) arg3 fullShare W -∗ owns (c : Thread nD τ) arg4 fullShare WS
        -∗ owns (c : Thread nD τ) arg5 fullShare (outF X G W WS 0 (by omega))
        -∗ owns (c : Thread nD τ) arg6 fullShare (outF X G W WS 5 (by omega))
        -∗ owns (c : Thread nD τ) arg7 fullShare (outF X G W WS 10 (by omega))
        -∗ owns (c : Thread nD τ) arg8 fullShare (scF X G W WS 0 slices_S128x128_o0_0_S5x128)
        -∗ owns (c : Thread nD τ) arg9 fullShare (scF X G W WS 5 slices_S128x128_o5_0_S5x128)
        -∗ owns (c : Thread nD τ) arg10 fullShare (scF X G W WS 10 slices_S128x128_o10_0_S5x128)
        -∗ owns (c : Thread nD τ) arg11 fullShare (codesF X G)
        -∗ owns (c : Thread nD τ) arg12 fullShare (xscF X G W WS)
        -∗ owns (c : Thread nD τ) arg13 fullShare S' -∗ owns (c : Thread nD τ) arg14 fullShare V'
        -∗ owns (c : Thread nD τ) arg15 fullShare P' -∗ Q ⟨⟩))
      ⊢ Wp c E (cc0_rmsnorm_qkv_quant i arg1 harg1 arg2 harg2 arg3 harg3 arg4 harg4 arg5 harg5 arg6 harg6 arg7 harg7
        arg8 harg8 arg9 harg9 arg10 harg10 arg11 harg11 arg12 harg12 arg13 harg13 arg14 harg14 arg15 harg15) Q := by
  rw [body_eq]
  iintro ⟨H1, H2, H3, H4, H5, H6, H7, H8, H9, H10, H11, H12, H13, H14, H15, Hk⟩
  iapply (wp_blocks c E X G arg1 arg2 arg11 harg11 arg13 arg15 Q _ 16 le_rfl 0 rfl P C S
    (fun _ _ _ _ h => absurd h (by omega)) (fun _ _ h => absurd h (by omega)))
  isplitl [H1]; · iexact H1
  isplitl [H2]; · iexact H2
  isplitl [H15]; · iexact H15
  isplitl [H11]; · iexact H11
  isplitl [H13]; · iexact H13
  iintro %P' %C' %S' %hC %hS H1 H2 H15 H11 H13
  rw [codesF_of hC, xsF_of hS]
  iapply (wp_tail c E (codesF X G) (xsF X G) W WS arg3 arg4 arg5 arg6 arg7 harg5 harg6 harg7 arg8 arg9 arg10 arg11 arg12
    arg13 arg14 Q V O5 O6 O7 T8 T9 T10 T12)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro %V' %O5' %O6' %O7' %T8' %T9' %T10' %T12' %h H3 H4 H5 H6 H7 H8 H9 H10 H11 H12 H13 H14
  obtain ⟨hV, h5, h6, h7, h8, h9, h10, h12⟩ := h
  rw [outF_of h5, outF_of h6, outF_of h7, scF_of hV (by omega) h8, scF_of hV (by omega) h9, scF_of hV (by omega) h10,
    xscF_of hV h12]
  iapply Hk $$ %(xsF X G) %V' %P' H1 H2 H3 H4 H5 H6 H7 H8 H9 H10 H11 H12 H13 H14 H15

variable (m : (ℓ : Loc nD τ sig) → Buf (Elt F) ℓ) (ρ : Dev nD → PrngReg)

/-! ## The pipeline's proof data -/

/-- The proof data of the pipeline on core `c`: the inputs' buffers keep their blocks, the outputs' hold what the body
    computes of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outF (iblk m c 0 t) (iblk m c 1 t) (iblk m c 2 t) (iblk m c 3 t) 0 (by omega)
    | ⟨5, _⟩ => outF (iblk m c 0 t) (iblk m c 1 t) (iblk m c 2 t) (iblk m c 3 t) 5 (by omega)
    | ⟨6, _⟩ => outF (iblk m c 0 t) (iblk m c 1 t) (iblk m c 2 t) (iblk m c 3 t) 10 (by omega)
    | ⟨7, _⟩ => scF (iblk m c 0 t) (iblk m c 1 t) (iblk m c 2 t) (iblk m c 3 t) 0 slices_S128x128_o0_0_S5x128
    | ⟨8, _⟩ => scF (iblk m c 0 t) (iblk m c 1 t) (iblk m c 2 t) (iblk m c 3 t) 5 slices_S128x128_o5_0_S5x128
    | ⟨9, _⟩ => scF (iblk m c 0 t) (iblk m c 1 t) (iblk m c 2 t) (iblk m c 3 t) 10 slices_S128x128_o10_0_S5x128
    | ⟨10, _⟩ => codesF (iblk m c 0 t) (iblk m c 1 t)
    | ⟨11, _⟩ => xscF (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t =
    outF (iblk m c 0 t) (iblk m c 1 t) (iblk m c 2 t) (iblk m c 3 t) 0 (by omega) := by dsimp only [dats]
theorem after0_5 (c : Dev nD) (t : Fin cfg0.N) : (dats m 0 c).after 5 t =
    outF (iblk m c 0 t) (iblk m c 1 t) (iblk m c 2 t) (iblk m c 3 t) 5 (by omega) := by dsimp only [dats]
theorem after0_6 (c : Dev nD) (t : Fin cfg0.N) : (dats m 0 c).after 6 t =
    outF (iblk m c 0 t) (iblk m c 1 t) (iblk m c 2 t) (iblk m c 3 t) 10 (by omega) := by dsimp only [dats]
theorem after0_7 (c : Dev nD) (t : Fin cfg0.N) : (dats m 0 c).after 7 t =
    scF (iblk m c 0 t) (iblk m c 1 t) (iblk m c 2 t) (iblk m c 3 t) 0 slices_S128x128_o0_0_S5x128 := by dsimp only [dats]
theorem after0_8 (c : Dev nD) (t : Fin cfg0.N) : (dats m 0 c).after 8 t =
    scF (iblk m c 0 t) (iblk m c 1 t) (iblk m c 2 t) (iblk m c 3 t) 5 slices_S128x128_o5_0_S5x128 := by dsimp only [dats]
theorem after0_9 (c : Dev nD) (t : Fin cfg0.N) : (dats m 0 c).after 9 t =
    scF (iblk m c 0 t) (iblk m c 1 t) (iblk m c 2 t) (iblk m c 3 t) 10 slices_S128x128_o10_0_S5x128 := by dsimp only [dats]
theorem after0_10 (c : Dev nD) (t : Fin cfg0.N) : (dats m 0 c).after 10 t =
    codesF (iblk m c 0 t) (iblk m c 1 t) := by dsimp only [dats]
theorem after0_11 (c : Dev nD) (t : Fin cfg0.N) : (dats m 0 c).after 11 t =
    xscF (iblk m c 0 t) (iblk m c 1 t) (iblk m c 2 t) (iblk m c 3 t) := by dsimp only [dats]

/-! An input's buffer holds its block. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- The invariant between points: the three scratch buffers at some contents, and the generator register. -/
theorem PhiA0_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_body c Set.univ _ (grid0.coords t) _ _ _ _ _ _ _ _ _ _ _ _ _ _ _ _ _ _ _ _ _ _ _ _ _ _ _ _ _ _
    (iblk m c 0 t) (iblk m c 1 t) (iblk m c 2 t) (iblk m c 3 t) _ _ _ _ _ _ _ _ s0 s1 s2)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro %S' %V' %P' H0 H1 H2 H3 H4 H5 H6 H7 H8 H9 H10 H11 HS0 HS1 HS2
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: the arrays at what the blocks leave, the rest of memory as the host lines leave it, the counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body
-- ==== Proof.KerOut.lean ====
/- The kernel's result arrays as functions of its arguments. -/
module

public import proofs.«01_k».proof.Proof.KerHeads
public import proofs.«01_k».proof.Proof.Results
public import proofs.«01_k».proof.Proof.Run
public import Idealize.ShloMosaic.Lib.Pipeline.ValueKit
public import Idealize.ShloMosaic.Lib.Claim

@[expose] public section

set_option maxRecDepth 16384

noncomputable section

namespace Cert.KernelIdeal.Rows

open Idealize.ShloMosaic hiding ix0 ix1 ix2 ix3 ix4
open Idealize.ShloMosaic.ValueIdx Idealize.ShloMosaic.TcCoe
open Idealize.ShloMosaic.Pipeline (Dat)
open Cert.KernelIdeal Cert.KernelIdeal.Gen Cert.KernelIdeal.Body Cert.Scale Cert.Spec

variable (m : (ℓ : Loc nD τ sig) → Buf (Elt Ideal) ℓ) (c : Dev nD)

/-- The arguments. -/
abbrev a0 : FVec Ideal S4x6144x5120 .bf16 := m ((c.tc : Thread nD τ).loc main_arg0)
abbrev a1 : FVec Ideal S5120 .bf16 := m ((c.tc : Thread nD τ).loc main_arg1)
abbrev a2 : FVec Ideal S5120x1920 .fp8e4m3 := m ((c.tc : Thread nD τ).loc main_arg2)
abbrev a3 : FVec Ideal S1920 .f32 := m ((c.tc : Thread nD τ).loc main_arg3)

theorem V_v1 : V m c main_v1 = shapeCast S1x5120 (extf .f32 (a1 m c) bitsLt_bf16_f32) shapeCasts_S5120_S1x5120 := by
  entry_read
  rfl

theorem V_v2 : V m c main_v2 = shapeCast S1x1920 (a3 m c) shapeCasts_S1920_S1x1920 := by
  entry_read
  rfl

/-! ## The blocks: grid point `t` has tokens `128 t` to `128 t + 127` of every batch -/

theorem e0 : ∀ t : Fin cfg0.N, win0_0.index t = ![0, t.val, 0] := (by decide +kernel : ∀ t : Fin grid0.N, win0_0.index t = ![0, t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0, t.val, 0] := (by decide +kernel : ∀ t : Fin grid0.N, win0_4.index t = ![0, 0, t.val, 0])
theorem e5 : ∀ t : Fin cfg0.N, win0_5.index t = ![0, 0, t.val, 0] := (by decide +kernel : ∀ t : Fin grid0.N, win0_5.index t = ![0, 0, t.val, 0])
theorem e6 : ∀ t : Fin cfg0.N, win0_6.index t = ![0, 0, t.val, 0] := (by decide +kernel : ∀ t : Fin grid0.N, win0_6.index t = ![0, 0, t.val, 0])
theorem e7 : ∀ t : Fin cfg0.N, win0_7.index t = ![0, 0, t.val] := (by decide +kernel : ∀ t : Fin grid0.N, win0_7.index t = ![0, 0, t.val])
theorem e8 : ∀ t : Fin cfg0.N, win0_8.index t = ![0, 0, t.val] := (by decide +kernel : ∀ t : Fin grid0.N, win0_8.index t = ![0, 0, t.val])
theorem e9 : ∀ t : Fin cfg0.N, win0_9.index t = ![0, 0, t.val] := (by decide +kernel : ∀ t : Fin grid0.N, win0_9.index t = ![0, 0, t.val])
theorem e10 : ∀ t : Fin cfg0.N, win0_10.index t = ![0, t.val, 0] := (by decide +kernel : ∀ t : Fin grid0.N, win0_10.index t = ![0, t.val, 0])
theorem e11 : ∀ t : Fin cfg0.N, win0_11.index t = ![0, t.val] := (by decide +kernel : ∀ t : Fin grid0.N, win0_11.index t = ![0, t.val])

theorem n_points (t : Fin cfg0.N) : t.val < 48 := lt_of_lt_of_eq t.isLt (by decide : grid0.N = 48)

/-- Token `u` of block `t`. -/
def tokN (t : Fin cfg0.N) (u : Fin 128) : Fin 6144 := ⟨t.val * 128 + u.val, by have := n_points t; omega⟩

theorem b0 (t : Fin cfg0.N) (b : Fin 4) (u : Fin 128) (k : Fin 5120) :
    iblk m c 0 t (ix3 b u k : S4x128x5120.Idx) = a0 m c (ix3 b (tokN t u) k) := by
  blk_simp [iblk]
  refine (congrFun (V_main_arg0 m c) _).trans (congrArg (a0 m c) ?_)
  blk_ext [e0, tokN]

theorem b1 (t : Fin cfg0.N) (k : Fin 5120) : iblk m c 1 t (ix2 0 k : S1x5120.Idx) = a1 m c (ix1 k) := by
  blk_simp [iblk]
  refine (congrFun (V_v1 m c) _).trans ?_
  refine (congrArg (shapeCast S1x5120 (extf (F := Ideal) .f32 (a1 m c) bitsLt_bf16_f32) shapeCasts_S5120_S1x5120)
    (show _ = (ix2 0 k : S1x5120.Idx) from ?_)).trans ?_
  · blk_ext [e1]
  · exact shapeCast_apply _ _ _ _ (by
      rw [Shape.rowMajor_val_one, Shape.rowMajor_val_two]
      show k.val = 0 * 5120 + k.val
      omega)

theorem b2 (t : Fin cfg0.N) (k : Fin 5120) (n : Fin 1920) : iblk m c 2 t (ix2 k n : S5120x1920.Idx) = a2 m c (ix2 k n) := by
  blk_simp [iblk]
  refine (congrFun (V_main_arg2 m c) _).trans (congrArg (a2 m c) ?_)
  blk_ext [e2]

theorem b3 (t : Fin cfg0.N) (n : Fin 1920) : iblk m c 3 t (ix2 0 n : S1x1920.Idx) = a3 m c (ix1 n) := by
  blk_simp [iblk]
  refine (congrFun (V_v2 m c) _).trans ?_
  refine (congrArg (shapeCast S1x1920 (a3 m c) shapeCasts_S1920_S1x1920) (show _ = (ix2 0 n : S1x1920.Idx) from ?_)).trans ?_
  · blk_ext [e3]
  · exact shapeCast_apply _ _ _ _ (by
      rw [Shape.rowMajor_val_one, Shape.rowMajor_val_two]
      show n.val = 0 * 1920 + n.val
      omega)

theorem h_eq (t : Fin cfg0.N) (b : Fin 4) (u : Fin 128) :
    hv (rowX (iblk m c 0 t) b u) (rowG (iblk m c 1 t)) = hRow (a0 m c) (a1 m c) b (tokN t u) :=
  congrArg₂ hv (funext fun k => b0 m c t b u k) (funext fun k => b1 m c t k)

theorem y_eq (t : Fin cfg0.N) (o B : Nat) (ho : o + 640 ≤ 1920) (hB : o = 128 * B) (b : Fin 4) (u : Fin 128) (j : Fin 5)
    (h : B + j.val < 15) :
    yH (iblk m c 0 t) (iblk m c 1 t) (iblk m c 2 t) (iblk m c 3 t) b u (B + j.val) h
      = yRow (a0 m c) (a1 m c) (a2 m c) (a3 m c) o ho b (tokN t u) j := by
  funext l
  unfold yH yRow yOut
  have h0 : rowX (iblk m c 0 t) b u = fun k => a0 m c (ix3 b (tokN t u) k) := funext fun k => b0 m c t b u k
  have h1 : rowG (iblk m c 1 t) = fun k => a1 m c (ix1 k) := funext fun k => b1 m c t k
  have hn : colN (B + j.val) h l = ⟨o + (128 * j.val + l.val), by omega⟩ :=
    Fin.ext (by show 128 * (B + j.val) + l.val = o + (128 * j.val + l.val); omega)
  rw [h0, h1, hn]
  exact congrArg₂ (yv _ _) (funext fun k => b2 m c t k _) (b3 m c t _)

/-! ## The result arrays -/

/-- The codes of a third's heads, head by head. -/
def codesK (o : Nat) (ho : o + 640 ≤ 1920) : FVec Ideal S4x5x6144x128 .fp8e4m3 := fun (i : S4x5x6144x128.Idx) =>
  code (yRow (a0 m c) (a1 m c) (a2 m c) (a3 m c) o ho (i 0) (i 2) (i 1)) (i 3)

/-- The scales of a third's heads, head by head. -/
def scalesK (o : Nat) (ho : o + 640 ≤ 1920) : FVec Ideal S5x4x6144 .f32 := fun (i : S5x4x6144.Idx) =>
  scl (yRow (a0 m c) (a1 m c) (a2 m c) (a3 m c) o ho (i 1) (i 2) (i 0))

theorem left4 (t : Fin cfg0.N) (y : S4x5x128x128.Idx) :
    (dats m 0 c).after 4 t y = (codesK m c 0 (by omega) : FVec Ideal S4x5x6144x128 .fp8e4m3) ((win0_4.blk t).view.emb y) := by
  rw [after0_4]
  obtain ⟨b, j, u, l, rfl⟩ : ∃ b j u l, y = (ix4 b j u l : S4x5x128x128.Idx) := eta4 y
  have hy : ((win0_4.blk t).view.emb (ix4 b j u l : S4x5x128x128.Idx) : S4x5x6144x128.Idx) = ix4 b j (tokN t u) l := by blk_ext [e4, tokN]
  rw [hy]
  exact (outF_apply _ _ _ _ 0 (by omega) b j u l).trans (congrArg (fun f => code f l) (y_eq m c t 0 0 (by omega) rfl b u j (by omega)))

theorem final4 : (dats m 0 c).arrAt 4 cfg0.N = codesK m c 0 (by omega) :=
  (dats m 0 c).arrAt_eq_of_covers 4 _ (by decide +kernel) fun t _ y => (cast_eq _ _).trans (left4 m c t y)

theorem left5 (t : Fin cfg0.N) (y : S4x5x128x128.Idx) :
    (dats m 0 c).after 5 t y = (codesK m c 640 (by omega) : FVec Ideal S4x5x6144x128 .fp8e4m3) ((win0_5.blk t).view.emb y) := by
  rw [after0_5]
  obtain ⟨b, j, u, l, rfl⟩ : ∃ b j u l, y = (ix4 b j u l : S4x5x128x128.Idx) := eta4 y
  have hy : ((win0_5.blk t).view.emb (ix4 b j u l : S4x5x128x128.Idx) : S4x5x6144x128.Idx) = ix4 b j (tokN t u) l := by blk_ext [e5, tokN]
  rw [hy]
  exact (outF_apply _ _ _ _ 5 (by omega) b j u l).trans (congrArg (fun f => code f l) (y_eq m c t 640 5 (by omega) rfl b u j (by omega)))

theorem final5 : (dats m 0 c).arrAt 5 cfg0.N = codesK m c 640 (by omega) :=
  (dats m 0 c).arrAt_eq_of_covers 5 _ (by decide +kernel) fun t _ y => (cast_eq _ _).trans (left5 m c t y)

theorem left6 (t : Fin cfg0.N) (y : S4x5x128x128.Idx) :
    (dats m 0 c).after 6 t y = (codesK m c 1280 (by omega) : FVec Ideal S4x5x6144x128 .fp8e4m3) ((win0_6.blk t).view.emb y) := by
  rw [after0_6]
  obtain ⟨b, j, u, l, rfl⟩ : ∃ b j u l, y = (ix4 b j u l : S4x5x128x128.Idx) := eta4 y
  have hy : ((win0_6.blk t).view.emb (ix4 b j u l : S4x5x128x128.Idx) : S4x5x6144x128.Idx) = ix4 b j (tokN t u) l := by blk_ext [e6, tokN]
  rw [hy]
  exact (outF_apply _ _ _ _ 10 (by omega) b j u l).trans (congrArg (fun f => code f l) (y_eq m c t 1280 10 (by omega) rfl b u j (by omega)))

theorem final6 : (dats m 0 c).arrAt 6 cfg0.N = codesK m c 1280 (by omega) :=
  (dats m 0 c).arrAt_eq_of_covers 6 _ (by decide +kernel) fun t _ y => (cast_eq _ _).trans (left6 m c t y)

theorem left7 (t : Fin cfg0.N) (y : S5x4x128.Idx) :
    (dats m 0 c).after 7 t y = (scalesK m c 0 (by omega) : FVec Ideal S5x4x6144 .f32) ((win0_7.blk t).view.emb y) := by
  rw [after0_7]
  obtain ⟨j, b, u, rfl⟩ : ∃ j b u, y = (ix3 j b u : S5x4x128.Idx) := eta3 y
  have hy : ((win0_7.blk t).view.emb (ix3 j b u : S5x4x128.Idx) : S5x4x6144.Idx) = ix3 j b (tokN t u) := by blk_ext [e7, tokN]
  rw [hy]
  exact (scF_apply _ _ _ _ 0 _ (by omega) j b u).trans (congrArg scl (y_eq m c t 0 0 (by omega) rfl b u j (by omega)))

theorem final7 : (dats m 0 c).arrAt 7 cfg0.N = scalesK m c 0 (by omega) :=
  (dats m 0 c).arrAt_eq_of_covers 7 _ (by decide +kernel) fun t _ y => (cast_eq _ _).trans (left7 m c t y)

theorem left8 (t : Fin cfg0.N) (y : S5x4x128.Idx) :
    (dats m 0 c).after 8 t y = (scalesK m c 640 (by omega) : FVec Ideal S5x4x6144 .f32) ((win0_8.blk t).view.emb y) := by
  rw [after0_8]
  obtain ⟨j, b, u, rfl⟩ : ∃ j b u, y = (ix3 j b u : S5x4x128.Idx) := eta3 y
  have hy : ((win0_8.blk t).view.emb (ix3 j b u : S5x4x128.Idx) : S5x4x6144.Idx) = ix3 j b (tokN t u) := by blk_ext [e8, tokN]
  rw [hy]
  exact (scF_apply _ _ _ _ 5 _ (by omega) j b u).trans (congrArg scl (y_eq m c t 640 5 (by omega) rfl b u j (by omega)))

theorem final8 : (dats m 0 c).arrAt 8 cfg0.N = scalesK m c 640 (by omega) :=
  (dats m 0 c).arrAt_eq_of_covers 8 _ (by decide +kernel) fun t _ y => (cast_eq _ _).trans (left8 m c t y)

theorem left9 (t : Fin cfg0.N) (y : S5x4x128.Idx) :
    (dats m 0 c).after 9 t y = (scalesK m c 1280 (by omega) : FVec Ideal S5x4x6144 .f32) ((win0_9.blk t).view.emb y) := by
  rw [after0_9]
  obtain ⟨j, b, u, rfl⟩ : ∃ j b u, y = (ix3 j b u : S5x4x128.Idx) := eta3 y
  have hy : ((win0_9.blk t).view.emb (ix3 j b u : S5x4x128.Idx) : S5x4x6144.Idx) = ix3 j b (tokN t u) := by blk_ext [e9, tokN]
  rw [hy]
  exact (scF_apply _ _ _ _ 10 _ (by omega) j b u).trans (congrArg scl (y_eq m c t 1280 10 (by omega) rfl b u j (by omega)))

theorem final9 : (dats m 0 c).arrAt 9 cfg0.N = scalesK m c 1280 (by omega) :=
  (dats m 0 c).arrAt_eq_of_covers 9 _ (by decide +kernel) fun t _ y => (cast_eq _ _).trans (left9 m c t y)

theorem left10 (t : Fin cfg0.N) (y : S4x128x5120.Idx) :
    (dats m 0 c).after 10 t y = (rowCodes (a0 m c) (a1 m c) : FVec Ideal S4x6144x5120 .fp8e4m3) ((win0_10.blk t).view.emb y) := by
  rw [after0_10]
  obtain ⟨b, u, k, rfl⟩ : ∃ b u k, y = (ix3 b u k : S4x128x5120.Idx) := eta3 y
  have hy : ((win0_10.blk t).view.emb (ix3 b u k : S4x128x5120.Idx) : S4x6144x5120.Idx) = ix3 b (tokN t u) k := by blk_ext [e10, tokN]
  rw [hy]
  exact (codesF_apply _ _ b u k).trans (congrArg (fun f => code f k) (h_eq m c t b u))

theorem final10 : (dats m 0 c).arrAt 10 cfg0.N = rowCodes (a0 m c) (a1 m c) :=
  (dats m 0 c).arrAt_eq_of_covers 10 _ (by decide +kernel) fun t _ y => (cast_eq _ _).trans (left10 m c t y)

theorem left11 (t : Fin cfg0.N) (y : S4x128.Idx) :
    (dats m 0 c).after 11 t y = (rowScales (a0 m c) (a1 m c) : FVec Ideal S4x6144 .f32) ((win0_11.blk t).view.emb y) := by
  rw [after0_11]
  obtain ⟨b, u, rfl⟩ : ∃ b u, y = (ix2 b u : S4x128.Idx) := eta2 y
  have hy : ((win0_11.blk t).view.emb (ix2 b u : S4x128.Idx) : S4x6144.Idx) = ix2 b (tokN t u) := by blk_ext [e11, tokN]
  rw [hy]
  exact (xscF_apply _ _ _ _ b u).trans (congrArg scl (h_eq m c t b u))

theorem final11 : (dats m 0 c).arrAt 11 cfg0.N = rowScales (a0 m c) (a1 m c) :=
  (dats m 0 c).arrAt_eq_of_covers 11 _ (by decide +kernel) fun t _ y => (cast_eq _ _).trans (left11 m c t y)

end Cert.KernelIdeal.Rows
-- ==== Proof.KerRun.lean ====
/- The kernel's results after the host's transposes, and the run that leaves them. -/
module

public import proofs.«01_k».proof.Proof.KerOut

@[expose] public section

set_option maxRecDepth 16384

noncomputable section

namespace Cert.KernelIdeal.Rows

open Idealize.ShloMosaic hiding ix0 ix1 ix2 ix3 ix4
open Idealize.ShloMosaic.ValueIdx Idealize.ShloMosaic.TcCoe Idealize.SL.Sem
open Cert.KernelIdeal Cert.KernelIdeal.Gen Cert.KernelIdeal.Body Cert.Scale Cert.Spec

variable (m : (ℓ : Loc nD τ sig) → Buf (Elt Ideal) ℓ) (ρ : Dev nD → PrngReg) (c : Dev nD)

/-- The codes with the heads behind the tokens. -/
theorem codes_moved (o : Nat) (ho : o + 640 ≤ 1920) :
    transpose S4x6144x5x128 [0, 2, 1, 3] (codesK m c o ho) transposes_S4x5x6144x128_S4x6144x5x128_0_2_1_3
      = headCodes (a0 m c) (a1 m c) (a2 m c) (a3 m c) o ho := by
  funext y
  obtain ⟨b, u, j, l, rfl⟩ : ∃ b u j l, y = (ix4 b u j l : S4x6144x5x128.Idx) := eta4 y
  exact transpose_apply _ _ _ _ (ix4 b j u l : S4x5x6144x128.Idx) fun a => by
    match a with
    | ⟨0, _⟩ => rfl
    | ⟨1, _⟩ => rfl
    | ⟨2, _⟩ => rfl
    | ⟨3, _⟩ => rfl

/-- The scales with the heads behind the tokens. -/
theorem scales_moved (o : Nat) (ho : o + 640 ≤ 1920) :
    transpose S4x6144x5 [1, 2, 0] (scalesK m c o ho) transposes_S5x4x6144_S4x6144x5_1_2_0
      = headScales (a0 m c) (a1 m c) (a2 m c) (a3 m c) o ho := by
  funext y
  obtain ⟨b, u, j, rfl⟩ : ∃ b u j, y = (ix3 b u j : S4x6144x5.Idx) := eta3 y
  exact transpose_apply _ _ _ _ (ix3 j b u : S5x4x6144.Idx) fun a => by
    match a with
    | ⟨0, _⟩ => rfl
    | ⟨1, _⟩ => rfl
    | ⟨2, _⟩ => rfl

/-- The grid's windows name different arrays. -/
theorem arrays_ne : Function.Injective (Pipeline.arrRef spec0) := by decide

/-- The contents of the arrays after the grid. -/
abbrev W : Valuation τ sig (Elt Ideal) := Pipeline.withArrays spec0 c (V0 m c) fun w => (dats m 0 c).arrAt w cfg0.N

/-- What the host's operations leave. -/
abbrev T (b : Ref sig .tc) : Buf (Elt Ideal) ((c.tc : Thread nD τ).loc b) := Pipeline.afterTail₀ cfgs (dats m) 0 (V0 m) [hostOps1] c b

/-! Each result that the host transposes, read after the host's operations. -/

theorem T_v4 : T m c main_v4 = headCodes (a0 m c) (a1 m c) (a2 m c) (a3 m c) 0 (by omega) := by
  have h : T m c main_v4 = transpose S4x6144x5x128 [0, 2, 1, 3] (W m c (Proc.devRef .tc main_v3_0))
      transposes_S4x5x6144x128_S4x6144x5x128_0_2_1_3 := by
    unfold T Pipeline.afterTail₀
    after_results
    try rfl
  exact h.trans ((congrArg (fun v : FVec Ideal S4x5x6144x128 .fp8e4m3 => transpose S4x6144x5x128 [0, 2, 1, 3] v
    transposes_S4x5x6144x128_S4x6144x5x128_0_2_1_3) ((Pipeline.withArrays_arr spec0 arrays_ne c _ _ 4).trans
    (final4 m c))).trans (codes_moved m c 0 _))

theorem T_v5 : T m c main_v5 = headCodes (a0 m c) (a1 m c) (a2 m c) (a3 m c) 640 (by omega) := by
  have h : T m c main_v5 = transpose S4x6144x5x128 [0, 2, 1, 3] (W m c (Proc.devRef .tc main_v3_1))
      transposes_S4x5x6144x128_S4x6144x5x128_0_2_1_3 := by
    unfold T Pipeline.afterTail₀
    after_results
    try rfl
  exact h.trans ((congrArg (fun v : FVec Ideal S4x5x6144x128 .fp8e4m3 => transpose S4x6144x5x128 [0, 2, 1, 3] v
    transposes_S4x5x6144x128_S4x6144x5x128_0_2_1_3) ((Pipeline.withArrays_arr spec0 arrays_ne c _ _ 5).trans
    (final5 m c))).trans (codes_moved m c 640 _))

theorem T_v6 : T m c main_v6 = headCodes (a0 m c) (a1 m c) (a2 m c) (a3 m c) 1280 (by omega) := by
  have h : T m c main_v6 = transpose S4x6144x5x128 [0, 2, 1, 3] (W m c (Proc.devRef .tc main_v3_2))
      transposes_S4x5x6144x128_S4x6144x5x128_0_2_1_3 := by
    unfold T Pipeline.afterTail₀
    after_results
    try rfl
  exact h.trans ((congrArg (fun v : FVec Ideal S4x5x6144x128 .fp8e4m3 => transpose S4x6144x5x128 [0, 2, 1, 3] v
    transposes_S4x5x6144x128_S4x6144x5x128_0_2_1_3) ((Pipeline.withArrays_arr spec0 arrays_ne c _ _ 6).trans
    (final6 m c))).trans (codes_moved m c 1280 _))

theorem T_v7 : T m c main_v7 = headScales (a0 m c) (a1 m c) (a2 m c) (a3 m c) 0 (by omega) := by
  have h : T m c main_v7 = transpose S4x6144x5 [1, 2, 0] (W m c (Proc.devRef .tc main_v3_3))
      transposes_S5x4x6144_S4x6144x5_1_2_0 := by
    unfold T Pipeline.afterTail₀
    after_results
    try rfl
  exact h.trans ((congrArg (fun v : FVec Ideal S5x4x6144 .f32 => transpose S4x6144x5 [1, 2, 0] v
    transposes_S5x4x6144_S4x6144x5_1_2_0) ((Pipeline.withArrays_arr spec0 arrays_ne c _ _ 7).trans
    (final7 m c))).trans (scales_moved m c 0 _))

theorem T_v8 : T m c main_v8 = headScales (a0 m c) (a1 m c) (a2 m c) (a3 m c) 640 (by omega) := by
  have h : T m c main_v8 = transpose S4x6144x5 [1, 2, 0] (W m c (Proc.devRef .tc main_v3_4))
      transposes_S5x4x6144_S4x6144x5_1_2_0 := by
    unfold T Pipeline.afterTail₀
    after_results
    try rfl
  exact h.trans ((congrArg (fun v : FVec Ideal S5x4x6144 .f32 => transpose S4x6144x5 [1, 2, 0] v
    transposes_S5x4x6144_S4x6144x5_1_2_0) ((Pipeline.withArrays_arr spec0 arrays_ne c _ _ 8).trans
    (final8 m c))).trans (scales_moved m c 640 _))

theorem T_v9 : T m c main_v9 = headScales (a0 m c) (a1 m c) (a2 m c) (a3 m c) 1280 (by omega) := by
  have h : T m c main_v9 = transpose S4x6144x5 [1, 2, 0] (W m c (Proc.devRef .tc main_v3_5))
      transposes_S5x4x6144_S4x6144x5_1_2_0 := by
    unfold T Pipeline.afterTail₀
    after_results
    try rfl
  exact h.trans ((congrArg (fun v : FVec Ideal S5x4x6144 .f32 => transpose S4x6144x5 [1, 2, 0] v
    transposes_S5x4x6144_S4x6144x5_1_2_0) ((Pipeline.withArrays_arr spec0 arrays_ne c _ _ 9).trans
    (final9 m c))).trans (scales_moved m c 1280 _))

/-- The run: every result at its value, every argument unchanged. -/
theorem run_values : θ_run defs (onTc (τ := τ) (main (F := Ideal))) ⟨m, fun _ => 0, ρ⟩ (fun r => ∀ c : Dev nD,
      r.2.mem ((c.tc : Thread nD τ).loc main_v4) = headCodes (a0 m c) (a1 m c) (a2 m c) (a3 m c) 0 (by omega)
      ∧ r.2.mem ((c.tc : Thread nD τ).loc main_v7) = headScales (a0 m c) (a1 m c) (a2 m c) (a3 m c) 0 (by omega)
      ∧ r.2.mem ((c.tc : Thread nD τ).loc main_v5) = headCodes (a0 m c) (a1 m c) (a2 m c) (a3 m c) 640 (by omega)
      ∧ r.2.mem ((c.tc : Thread nD τ).loc main_v8) = headScales (a0 m c) (a1 m c) (a2 m c) (a3 m c) 640 (by omega)
      ∧ r.2.mem ((c.tc : Thread nD τ).loc main_v6) = headCodes (a0 m c) (a1 m c) (a2 m c) (a3 m c) 1280 (by omega)
      ∧ r.2.mem ((c.tc : Thread nD τ).loc main_v9) = headScales (a0 m c) (a1 m c) (a2 m c) (a3 m c) 1280 (by omega)
      ∧ r.2.mem ((c.tc : Thread nD τ).loc main_v3_6) = rowCodes (a0 m c) (a1 m c)
      ∧ r.2.mem ((c.tc : Thread nD τ).loc main_v3_7) = rowScales (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v4 (Pipeline.mem_restRefs_of main_v4 (by decide) (by decide))).trans (T_v4 m c),
      ((h.1 c).2 main_v7 (Pipeline.mem_restRefs_of main_v7 (by decide) (by decide))).trans (T_v7 m c),
      ((h.1 c).2 main_v5 (Pipeline.mem_restRefs_of main_v5 (by decide) (by decide))).trans (T_v5 m c),
      ((h.1 c).2 main_v8 (Pipeline.mem_restRefs_of main_v8 (by decide) (by decide))).trans (T_v8 m c),
      ((h.1 c).2 main_v6 (Pipeline.mem_restRefs_of main_v6 (by decide) (by decide))).trans (T_v6 m c),
      ((h.1 c).2 main_v9 (Pipeline.mem_restRefs_of main_v9 (by decide) (by decide))).trans (T_v9 m c),
      ((h.1 c).1 10).trans (final10 m c),
      ((h.1 c).1 11).trans (final11 m c),
      h.2 c⟩) (θ_run_and (run_main m ρ) (unchanged m ρ))

end Cert.KernelIdeal.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.FrameFloat
public import proofs.«01_k».proof.Proof.RefRun
public import proofs.«01_k».proof.Proof.KerRun
public import Idealize.ShloMosaic.Adequacy
public import Idealize.ShloMosaic.Init

@[expose] public section

noncomputable section

namespace Cert.Proof

open Idealize.ShloMosaic Idealize.SL.Sem Cert.Kernel

/-- Both programs leave, in each result, the same function of the arguments. -/
theorem algebraic : Cert.algebraic_KernelIdeal_ReferenceIdeal := by
  intro m g m' g' _ hin
  have e0 : ∀ c, Cert.ReferenceIdeal.Rows.a0 m' c = Cert.KernelIdeal.Rows.a0 m c := fun c => (hin c).1
  have e1 : ∀ c, Cert.ReferenceIdeal.Rows.a1 m' c = Cert.KernelIdeal.Rows.a1 m c := fun c => (hin c).2.1
  have e2 : ∀ c, Cert.ReferenceIdeal.Rows.a2 m' c = Cert.KernelIdeal.Rows.a2 m c := fun c => (hin c).2.2.1
  have e3 : ∀ c, Cert.ReferenceIdeal.Rows.a3 m' c = Cert.KernelIdeal.Rows.a3 m c := fun c => (hin c).2.2.2
  refine ⟨fun c => Cert.Spec.headCodes (Cert.KernelIdeal.Rows.a0 m c) (Cert.KernelIdeal.Rows.a1 m c) (Cert.KernelIdeal.Rows.a2 m c) (Cert.KernelIdeal.Rows.a3 m c) 0 (by omega),
    fun c => Cert.Spec.headScales (Cert.KernelIdeal.Rows.a0 m c) (Cert.KernelIdeal.Rows.a1 m c) (Cert.KernelIdeal.Rows.a2 m c) (Cert.KernelIdeal.Rows.a3 m c) 0 (by omega),
    fun c => Cert.Spec.headCodes (Cert.KernelIdeal.Rows.a0 m c) (Cert.KernelIdeal.Rows.a1 m c) (Cert.KernelIdeal.Rows.a2 m c) (Cert.KernelIdeal.Rows.a3 m c) 640 (by omega),
    fun c => Cert.Spec.headScales (Cert.KernelIdeal.Rows.a0 m c) (Cert.KernelIdeal.Rows.a1 m c) (Cert.KernelIdeal.Rows.a2 m c) (Cert.KernelIdeal.Rows.a3 m c) 640 (by omega),
    fun c => Cert.Spec.headCodes (Cert.KernelIdeal.Rows.a0 m c) (Cert.KernelIdeal.Rows.a1 m c) (Cert.KernelIdeal.Rows.a2 m c) (Cert.KernelIdeal.Rows.a3 m c) 1280 (by omega),
    fun c => Cert.Spec.headScales (Cert.KernelIdeal.Rows.a0 m c) (Cert.KernelIdeal.Rows.a1 m c) (Cert.KernelIdeal.Rows.a2 m c) (Cert.KernelIdeal.Rows.a3 m c) 1280 (by omega),
    fun c => Cert.Spec.rowCodes (Cert.KernelIdeal.Rows.a0 m c) (Cert.KernelIdeal.Rows.a1 m c),
    fun c => Cert.Spec.rowScales (Cert.KernelIdeal.Rows.a0 m c) (Cert.KernelIdeal.Rows.a1 m c),
    Cert.KernelIdeal.Rows.run_values m g, ?_⟩
  refine (θ_run Cert.ReferenceIdeal.defs _ _).mono (fun r h c => ?_) (Cert.ReferenceIdeal.Rows.run_values m' g')
  obtain ⟨h0, h1, h2, h3, h4, h5, h6, h7, h⟩ := h c
  rw [e0 c, e1 c, e2 c, e3 c] at h0 h1 h2 h3 h4 h5
  rw [e0 c, e1 c] at h6 h7
  exact ⟨h0, h1, h2, h3, h4, h5, h6, h7, h⟩

theorem claim : Cert.Claim := ⟨Cert.Kernel.Gen.facts, Cert.KernelIdeal.Gen.facts, Cert.ReferenceIdeal.Gen.facts,
  fun m ρ _ => Cert.Kernel.Forget.frame m ρ, fun m ρ _ => Cert.KernelIdeal.Body.frame_ideal m ρ,
  fun m ρ _ => Cert.ReferenceIdeal.Gen.frame m ρ, trivial, algebraic⟩

end Cert.Proof

end
